-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Gather [hPre_indices_in_range : Cert.Pre_indices_in_range.Facts] (m : (ℓ : Loc Cert.Gather.nD Cert.Gather.τ Cert.Gather.sig) → Buf (Elt Bits) ℓ) : Prop :=
  ∀ c : Dev Cert.Gather.nD,
    (Cert.Pre_indices_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_Take [hPre_indices_in_range : Cert.Pre_indices_in_range.Facts] (m : (ℓ : Loc Cert.Take.nD Cert.Take.τ Cert.Take.sig) → Buf (Elt Bits) ℓ) : Prop :=
  ∀ c : Dev Cert.Take.nD,
    (Cert.Pre_indices_in_range.fn (F := Bits) (m ((c.tc : Thread Cert.Take.nD Cert.Take.τ).loc Cert.Take.main_arg0)) (m ((c.tc : Thread Cert.Take.nD Cert.Take.τ).loc Cert.Take.main_arg1))) = (fun _ => 1#1)

def Pre_Distances (m : (ℓ : Loc Cert.Distances.nD Cert.Distances.τ Cert.Distances.sig) → Buf (Elt Bits) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_indices_in_range : Cert.Pre_indices_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_Take [hTake : Cert.Take.Facts] [hPre_indices_in_range : Cert.Pre_indices_in_range.Facts] : Prop :=
  ∀ (m : (ℓ : Loc Cert.Take.nD Cert.Take.τ Cert.Take.sig) → Buf (Elt Bits) ℓ) (g : Dev Cert.Take.nD → PrngReg), Pre_Take m →
    θ_run (Cert.Take.defs (F := Bits)) (onTc (τ := Cert.Take.τ) (Cert.Take.main (F := Bits))) ⟨m, fun _ => 0, g⟩ (fun r => (∀ c : Dev Cert.Take.nD,
      r.2.mem ((c.tc : Thread Cert.Take.nD Cert.Take.τ).loc Cert.Take.main_arg0) = m ((c.tc : Thread Cert.Take.nD Cert.Take.τ).loc Cert.Take.main_arg0)
      ∧ r.2.mem ((c.tc : Thread Cert.Take.nD Cert.Take.τ).loc Cert.Take.main_arg1) = m ((c.tc : Thread Cert.Take.nD Cert.Take.τ).loc Cert.Take.main_arg1))
      ∧ r.2.sem = fun _ => 0)

def quiescent_Distances [hDistances : Cert.Distances.Facts] : Prop :=
  ∀ (m : (ℓ : Loc Cert.Distances.nD Cert.Distances.τ Cert.Distances.sig) → Buf (Elt Bits) ℓ) (g : Dev Cert.Distances.nD → PrngReg), Pre_Distances m →
    θ_run (Cert.Distances.defs (F := Bits)) (onTc (τ := Cert.Distances.τ) (Cert.Distances.main (F := Bits))) ⟨m, fun _ => 0, g⟩ (fun r => (∀ c : Dev Cert.Distances.nD,
      r.2.mem ((c.tc : Thread Cert.Distances.nD Cert.Distances.τ).loc Cert.Distances.main_arg0) = m ((c.tc : Thread Cert.Distances.nD Cert.Distances.τ).loc Cert.Distances.main_arg0)
      ∧ r.2.mem ((c.tc : Thread Cert.Distances.nD Cert.Distances.τ).loc Cert.Distances.main_arg1) = m ((c.tc : Thread Cert.Distances.nD Cert.Distances.τ).loc Cert.Distances.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Gather_Take [hGather : Cert.Gather.Facts] [hTake : Cert.Take.Facts] [hPre_indices_in_range : Cert.Pre_indices_in_range.Facts] : Prop :=
  ∀ (m : (ℓ : Loc Cert.Gather.nD Cert.Gather.τ Cert.Gather.sig) → Buf (Elt Bits) ℓ) (g : Dev Cert.Gather.nD → PrngReg)
    (m' : (ℓ : Loc Cert.Take.nD Cert.Take.τ Cert.Take.sig) → Buf (Elt Bits) ℓ) (g' : Dev Cert.Take.nD → PrngReg), Pre_Gather m →
    (∀ c : Dev Cert.Gather.nD,
      m' ((c.tc : Thread Cert.Take.nD Cert.Take.τ).loc Cert.Take.main_arg0) = m ((c.tc : Thread Cert.Gather.nD Cert.Gather.τ).loc Cert.Gather.main_arg0)
      ∧ m' ((c.tc : Thread Cert.Take.nD Cert.Take.τ).loc Cert.Take.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v2)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v2) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Take.defs (F := Bits)) (onTc (τ := Cert.Take.τ) (Cert.Take.main (F := Bits))) ⟨m', fun _ => 0, g'⟩ (fun r => ∀ c : Dev Cert.Take.nD,
          r.2.mem ((c.tc : Thread Cert.Take.nD Cert.Take.τ).loc Cert.Take.main_v0) = v0 c
          ∧ r.2.mem ((c.tc : Thread Cert.Take.nD Cert.Take.τ).loc Cert.Take.main_arg0) = m' ((c.tc : Thread Cert.Take.nD Cert.Take.τ).loc Cert.Take.main_arg0)
          ∧ r.2.mem ((c.tc : Thread Cert.Take.nD Cert.Take.τ).loc Cert.Take.main_arg1) = m' ((c.tc : Thread Cert.Take.nD Cert.Take.τ).loc Cert.Take.main_arg1))

def Claim : Prop :=
  ∃ (hKernelIdeal : Cert.KernelIdeal.Facts) (hReferenceIdeal : Cert.ReferenceIdeal.Facts) (hGather : Cert.Gather.Facts) (hTake : Cert.Take.Facts) (hDistances : Cert.Distances.Facts) (hPre_finite : Cert.Pre_finite.Facts) (hPre_indices_in_range : Cert.Pre_indices_in_range.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gather (hGather := hGather) (hPre_indices_in_range := hPre_indices_in_range)
    ∧ quiescent_Take (hTake := hTake) (hPre_indices_in_range := hPre_indices_in_range)
    ∧ quiescent_Distances (hDistances := hDistances)
    ∧ algebraic_KernelIdeal_ReferenceIdeal_pre_finite (hKernelIdeal := hKernelIdeal) (hReferenceIdeal := hReferenceIdeal) (hPre_finite := hPre_finite)
    ∧ bitexact_Gather_Take (hGather := hGather) (hTake := hTake) (hPre_indices_in_range := hPre_indices_in_range)
-- ==== Pre_finite.lean ====
abbrev S16384x32 : Shape := ⟨2, ![16384, 32]⟩
abbrev S8192x32 : Shape := ⟨2, ![8192, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S16384x32 .f32) (main_arg1 : FVec F S8192x32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Pre_indices_in_range.lean ====
abbrev S8192x32 : Shape := ⟨2, ![8192, 32]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S8192x32 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 8192#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== KernelIdeal.lean ====
abbrev S16384x32 : Shape := ⟨2, ![16384, 32]⟩
abbrev S8192x32 : Shape := ⟨2, ![8192, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S32x8192 : Shape := ⟨2, ![32, 8192]⟩
abbrev S32x1x512 : Shape := ⟨3, ![32, 1, 512]⟩
abbrev S1x1 : Shape := ⟨2, ![1, 1]⟩
abbrev S512x32 : Shape := ⟨2, ![512, 32]⟩
abbrev S512x1 : Shape := ⟨2, ![512, 1]⟩
abbrev S1x1x512 : Shape := ⟨3, ![1, 1, 512]⟩
abbrev S1 : Shape := ⟨1, ![1]⟩
abbrev S512x8192 : Shape := ⟨2, ![512, 8192]⟩
abbrev S512x128 : Shape := ⟨2, ![512, 128]⟩
abbrev S512 : Shape := ⟨1, ![512]⟩
abbrev S1x512 : Shape := ⟨2, ![1, 512]⟩
abbrev S8192x128 : Shape := ⟨2, ![8192, 128]⟩
abbrev S16384x128 : Shape := ⟨2, ![16384, 128]⟩

abbrev nBuf : Table → Nat
  | .hbm => 29
  | .local .tc .vmem => 9
  | .local .tc .smem => 1
  | .local .scVector .vmem => 2
  | _ => 0

abbrev bufTy : (tb : Table) → Fin (nBuf tb) → BufTy
  | .hbm, ⟨0, _⟩ => ⟨S16384x32, .f32⟩
  | .hbm, ⟨1, _⟩ => ⟨S8192x32, .f32⟩
  | .hbm, ⟨2, _⟩ => ⟨S16384x32, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x32, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S_, .f32⟩
  | .hbm, ⟨11, _⟩ => ⟨S8192x32, .f32⟩
  | .hbm, ⟨12, _⟩ => ⟨S8192x32, .f32⟩
  | .hbm, ⟨13, _⟩ => ⟨S32x8192, .f32⟩
  | .hbm, ⟨14, _⟩ => ⟨S32x1x512, .i32⟩
  | .hbm, ⟨15, _⟩ => ⟨S1x1, .f32⟩
  | .hbm, ⟨16, _⟩ => ⟨S16384, .i32⟩
  | .hbm, ⟨17, _⟩ => ⟨S_, .f32⟩
  | .hbm, ⟨18, _⟩ => ⟨S_, .i32⟩
  | .hbm, ⟨19, _⟩ => ⟨S_, .f32⟩
  | .hbm, ⟨20, _⟩ => ⟨S8192x128, .f32⟩
  | .hbm, ⟨21, _⟩ => ⟨S16384x128, .f32⟩
  | .hbm, ⟨22, _⟩ => ⟨S16384x32, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16384x32, .f32⟩
  | .hbm, ⟨28, _⟩ => ⟨S16384x32, .f32⟩
  | .local .tc .vmem, ⟨0, _⟩ => ⟨S512x32, .f32⟩
  | .local .tc .vmem, ⟨1, _⟩ => ⟨S512x32, .f32⟩
  | .local .tc .vmem, ⟨2, _⟩ => ⟨S32x8192, .f32⟩
  | .local .tc .vmem, ⟨3, _⟩ => ⟨S512x1, .f32⟩
  | .local .tc .vmem, ⟨4, _⟩ => ⟨S512x1, .f32⟩
  | .local .tc .vmem, ⟨5, _⟩ => ⟨S1x8192, .f32⟩
  | .local .tc .vmem, ⟨6, _⟩ => ⟨S1x1x512, .i32⟩
  | .local .tc .vmem, ⟨7, _⟩ => ⟨S1x1x512, .i32⟩
  | .local .tc .vmem, ⟨8, _⟩ => ⟨S1x1, .f32⟩
  | .local .tc .smem, ⟨0, _⟩ => ⟨S1, .f32⟩
  | .local .scVector .vmem, ⟨0, _⟩ => ⟨S512, .i32⟩
  | .local .scVector .vmem, ⟨1, _⟩ => ⟨S512x128, .f32⟩
  | _, _ => ⟨S16384x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v12_scv : Ref sig .scVector := ⟨.hbm, 20, rfl⟩
abbrev main_v10_scv : Ref sig .scVector := ⟨.hbm, 16, rfl⟩
abbrev main_v13_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_54 : BitVec 32 := 31#32
  let v374 : BitVec 1 := Scalar.cmpi .eq arg0 c31_i32_54
  let v375 : BitVec 32 := Scalar.extui v374
  let c0_i32_55 : BitVec 32 := 0#32
  let v376 : BitVec 1 := Scalar.cmpi .ne v375 c0_i32_55
  v376

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x32 : Shape := ⟨2, ![16384, 32]⟩
abbrev S8192x32 : Shape := ⟨2, ![8192, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S32x8192 : Shape := ⟨2, ![32, 8192]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S8192x32, .f32⟩
  | .hbm, ⟨2, _⟩ => ⟨S16384x32, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x32, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S32x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S_, .f32⟩
  | .hbm, ⟨20, _⟩ => ⟨S16384x8192, .f32⟩
  | .hbm, ⟨21, _⟩ => ⟨S16384x8192, .f32⟩
  | .hbm, ⟨22, _⟩ => ⟨S16384x8192, .f32⟩
  | .hbm, ⟨23, _⟩ => ⟨S16384x8192, .i32⟩
  | .hbm, ⟨24, _⟩ => ⟨S_, .f32⟩
  | .hbm, ⟨25, _⟩ => ⟨S_, .i32⟩
  | .hbm, ⟨26, _⟩ => ⟨S16384, .f32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x32, .f32⟩
  | .hbm, ⟨47, _⟩ => ⟨S16384x32, .i1⟩
  | .hbm, ⟨48, _⟩ => ⟨S_, .f32⟩
  | .hbm, ⟨49, _⟩ => ⟨S16384x32, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16384x32, .f32⟩
  | .hbm, ⟨58, _⟩ => ⟨S16384x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16384x32, .f32⟩
  | .hbm, ⟨67, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩

abbrev nD : Nat := 1
abbrev τ : Topo := Topo.v7x

variable {F : FTy → Type} [FloatOps F]
-- ==== Gather.lean ====
abbrev S8192x32 : Shape := ⟨2, ![8192, 32]⟩
abbrev S16384 : Shape := ⟨1, ![16384]⟩
abbrev S_ : Shape := ⟨0, ![]⟩
abbrev S8192x128 : Shape := ⟨2, ![8192, 128]⟩
abbrev S16384x128 : Shape := ⟨2, ![16384, 128]⟩
abbrev S512 : Shape := ⟨1, ![512]⟩
abbrev S512x128 : Shape := ⟨2, ![512, 128]⟩
abbrev S16384x32 : Shape := ⟨2, ![16384, 32]⟩

abbrev nBuf : Table → Nat
  | .hbm => 7
  | .local .scVector .vmem => 2
  | _ => 0

abbrev bufTy : (tb : Table) → Fin (nBuf tb) → BufTy
  | .hbm, ⟨0, _⟩ => ⟨S8192x32, .f32⟩
  | .hbm, ⟨1, _⟩ => ⟨S16384, .i32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S16384x128, .f32⟩
  | .hbm, ⟨6, _⟩ => ⟨S16384x32, .f32⟩
  | .local .scVector .vmem, ⟨0, _⟩ => ⟨S512, .i32⟩
  | .local .scVector .vmem, ⟨1, _⟩ => ⟨S512x128, .f32⟩
  | _, _ => ⟨S8192x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Take.lean ====
abbrev S8192x32 : Shape := ⟨2, ![8192, 32]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 25
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x32, .f32⟩
  | .hbm, ⟨21, _⟩ => ⟨S16384x32, .i1⟩
  | .hbm, ⟨22, _⟩ => ⟨S_, .f32⟩
  | .hbm, ⟨23, _⟩ => ⟨S16384x32, .f32⟩
  | .hbm, ⟨24, _⟩ => ⟨S16384x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Distances.lean ====
abbrev S16384x32 : Shape := ⟨2, ![16384, 32]⟩
abbrev S8192x32 : Shape := ⟨2, ![8192, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S32x8192 : Shape := ⟨2, ![32, 8192]⟩
abbrev S32x1x512 : Shape := ⟨3, ![32, 1, 512]⟩
abbrev S1x1 : Shape := ⟨2, ![1, 1]⟩
abbrev S512x32 : Shape := ⟨2, ![512, 32]⟩
abbrev S512x1 : Shape := ⟨2, ![512, 1]⟩
abbrev S1x1x512 : Shape := ⟨3, ![1, 1, 512]⟩
abbrev S1 : Shape := ⟨1, ![1]⟩
abbrev S512x8192 : Shape := ⟨2, ![512, 8192]⟩
abbrev S512x128 : Shape := ⟨2, ![512, 128]⟩
abbrev S512 : Shape := ⟨1, ![512]⟩
abbrev S1x512 : Shape := ⟨2, ![1, 512]⟩

abbrev nBuf : Space → Nat
  | .hbm => 18
  | .vmem => 9
  | .smem => 1
  | _ => 0

abbrev bufTy : (tb : Table) → Fin (tcTables nBuf tb) → BufTy
  | .hbm, ⟨0, _⟩ => ⟨S16384x32, .f32⟩
  | .hbm, ⟨1, _⟩ => ⟨S8192x32, .f32⟩
  | .hbm, ⟨2, _⟩ => ⟨S16384x32, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x32, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S_, .f32⟩
  | .hbm, ⟨11, _⟩ => ⟨S8192x32, .f32⟩
  | .hbm, ⟨12, _⟩ => ⟨S8192x32, .f32⟩
  | .hbm, ⟨13, _⟩ => ⟨S32x8192, .f32⟩
  | .hbm, ⟨14, _⟩ => ⟨S32x1x512, .i32⟩
  | .hbm, ⟨15, _⟩ => ⟨S1x1, .f32⟩
  | .hbm, ⟨16, _⟩ => ⟨S16384, .i32⟩
  | .hbm, ⟨17, _⟩ => ⟨S_, .f32⟩
  | .local _ .vmem, ⟨0, _⟩ => ⟨S512x32, .f32⟩
  | .local _ .vmem, ⟨1, _⟩ => ⟨S512x32, .f32⟩
  | .local _ .vmem, ⟨2, _⟩ => ⟨S32x8192, .f32⟩
  | .local _ .vmem, ⟨3, _⟩ => ⟨S512x1, .f32⟩
  | .local _ .vmem, ⟨4, _⟩ => ⟨S512x1, .f32⟩
  | .local _ .vmem, ⟨5, _⟩ => ⟨S1x8192, .f32⟩
  | .local _ .vmem, ⟨6, _⟩ => ⟨S1x1x512, .i32⟩
  | .local _ .vmem, ⟨7, _⟩ => ⟨S1x1x512, .i32⟩
  | .local _ .vmem, ⟨8, _⟩ => ⟨S1x1, .f32⟩
  | .local _ .smem, ⟨0, _⟩ => ⟨S1, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_54 : BitVec 32 := 31#32
  let v374 : BitVec 1 := Scalar.cmpi .eq arg0 c31_i32_54
  let v375 : BitVec 32 := Scalar.extui v374
  let c0_i32_55 : BitVec 32 := 0#32
  let v376 : BitVec 1 := Scalar.cmpi .ne v375 c0_i32_55
  v376

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Proof.Host.lean ====
/-
  What both programs' runs use about the buffers of a TensorCore between its calls: the buffers no region scopes, held
  together at one valuation, and one of them taken out of that holding and put back at other contents.
-/
module

public import Idealize.ShloMosaic.Lib.StableHlo.Run
public import Idealize.ShloMosaic.Lib.SparseCore.Quiescent
public import Idealize.ShloMosaic.Lib.SparseCore.Ops
public import Idealize.ShloMosaic.Lib.SparseCore.Stream
public import Idealize.ShloMosaic.Lib.Pipeline.Kit

@[expose] public section

noncomputable section

namespace Cert.Proof.Host

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- The TensorCore's buffers that no region scopes, as buffers of the device. -/
def hostBufs (τ : Topo) (sig : RefSig) : Finset (DevRef τ sig) :=
  (Finset.univ.filter fun b : Ref sig .tc => ¬ b.isScoped).map ⟨Proc.devRef (sig := sig) (.tc : Proc τ), Proc.devRef_injective _⟩

/-- A reference that is not scoped is one of them. -/
theorem mem_hostBufs {b : Ref sig .tc} (h : b.isScoped = false) : Proc.devRef (τ := τ) .tc b ∈ hostBufs τ sig :=
  Finset.mem_map_of_mem _ (Finset.mem_filter.mpr ⟨Finset.mem_univ b, by simp [h]⟩)

/-- The unscoped buffers at a valuation's contents are that valuation held over `hostBufs`. -/
theorem unscopedBufs_held (d : Dev nD) (V : Valuation τ sig Val) :
    (unscopedBufs d (fun b => V (Proc.devRef .tc b)) : sProp 𝕄) = held (d.tc : Thread nD τ) (hostBufs τ sig) V := by
  unfold unscopedBufs held hostBufs
  rw [bigSep_map]; rfl

/-- One held buffer beside the others. -/
theorem held_take (c : Thread nD τ) {S : Finset (DevRef τ sig)} {b : DevRef τ sig} (hb : b ∈ S) (V : Valuation τ sig Val) :
    (held c S V : sProp 𝕄) = iprop(((c.1, b) ↦{fullShare} V b) ∗ held c (S.erase b) V) := by
  unfold held
  exact SparseCore.bigSep_erase' hb

/-- A holding depends on the valuation only at the buffers held. -/
theorem held_congr (c : Thread nD τ) {S : Finset (DevRef τ sig)} {V V' : Valuation τ sig Val} (h : ∀ b ∈ S, V b = V' b) :
    (held c S V : sProp 𝕄) = held c S V' := by
  unfold held
  exact bigSep_congr fun b hb => by rw [h b hb]

/-- A held buffer at other contents beside the others is the updated valuation held. -/
theorem held_put (c : Thread nD τ) {S : Finset (DevRef τ sig)} {b : DevRef τ sig} (hb : b ∈ S) (V : Valuation τ sig Val)
    (v : b.ty.Contents Val) :
    (held c S (Function.update V b v) : sProp 𝕄) = iprop(((c.1, b) ↦{fullShare} v) ∗ held c (S.erase b) V) := by
  rw [held_take c hb, Function.update_self]
  congr 1
  exact held_congr c fun b' hb' => Function.update_of_ne (Finset.ne_of_mem_erase hb') _ _

/-! ## Operations over those buffers -/

section Ops

open Idealize.ShloMosaic.StableHlo

variable {a b c x y : Ref sig .tc}

/-- A host operation over buffers none of which is scoped stays within them. -/
theorem nullary_sub (h : y.isScoped = false) (v : y.ty.Contents Val) (hy) : (nullary (τ := τ) y v hy).bufs ⊆ hostBufs τ sig :=
  Finset.singleton_subset_iff.mpr (mem_hostBufs h)
theorem unary_sub (hx' : x.isScoped = false) (hy' : y.isScoped = false) (f : x.ty.Contents Val → y.ty.Contents Val) (hx hy) :
    (unary (τ := τ) x y f hx hy).bufs ⊆ hostBufs τ sig :=
  Finset.insert_subset (mem_hostBufs hx') (Finset.singleton_subset_iff.mpr (mem_hostBufs hy'))
theorem binary_sub (ha' : a.isScoped = false) (hb' : b.isScoped = false) (hy' : y.isScoped = false)
    (f : a.ty.Contents Val → b.ty.Contents Val → y.ty.Contents Val) (ha hb hy) :
    (binary (τ := τ) a b y f ha hb hy).bufs ⊆ hostBufs τ sig :=
  Finset.insert_subset (mem_hostBufs ha') (Finset.insert_subset (mem_hostBufs hb') (Finset.singleton_subset_iff.mpr (mem_hostBufs hy')))
theorem reshape_sub (hx' : x.isScoped = false) (hy' : y.isScoped = false) (he hn hx hy) :
    (reshape (τ := τ) (Val := Val) x y he hn hx hy).bufs ⊆ hostBufs τ sig :=
  Finset.insert_subset (mem_hostBufs hx') (Finset.singleton_subset_iff.mpr (mem_hostBufs hy'))

end Ops

end Cert.Proof.Host

end
-- ==== Proof.Gather.Tile.lean ====
/-
  One task of the row gather on a vector subcore. Task `(c, s)` fetches the 512 indices of its block, streams the rows of
  the padded table they name into its row scratch, and writes the rows to its block of the result. The module states the
  rows the whole call leaves (`gathered`) and shows that one task leaves its block at them, provided that every index of
  its block names a row of the table.
-/
module

public import proofs.«01_k».proof.Defs
public import proofs.«01_k».proof.Proof.Host
public import Idealize.ShloMosaic.Lib.Tactic
public import proofs.«01_k».proof.Proof.Gen.Gather
public import proofs.«01_k».proof.Proof.Gen.Gather.Skeleton

@[expose] public section

noncomputable section

namespace Cert.Proof.Gather

open Cert.Gather Cert.Gather.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch on the program's own tables. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three operands and the two scratch buffers -/

abbrev iRef : Ref sig .tc := main_arg1
abbrev xRef : Ref sig .tc := main_v0
abbrev oRef : Ref sig .tc := main_v1
abbrev iLoc (d : Dev nD) : Loc nD τ sig := (SparseCore.T d).loc iRef
abbrev xLoc (d : Dev nD) : Loc nD τ sig := (SparseCore.T d).loc xRef
abbrev oLoc (d : Dev nD) : Loc nD τ sig := (SparseCore.T d).loc oRef

abbrev iV : Memref sig .scVector .hbm S16384 .i32 := Memref.whole main_arg1_scv
abbrev xV : Memref sig .scVector .hbm S8192x128 .f32 := Memref.whole main_v0_scv
abbrev oV : Memref sig .scVector .hbm S16384x128 .f32 := Memref.whole main_v1_scv
abbrev sV : Memref sig .scVector .vmem S512 .i32 := Memref.whole cc0_scratch0
abbrev rV : Memref sig .scVector .vmem S512x128 .f32 := Memref.whole cc0_scratch1

abbrev Coords : Type := grid0.Coords
abbrev cV (L : Coords) : Fin τ.nSC := (L 0).castLE hcore0
abbrev jV (L : Coords) : Fin τ.nSub := (L 1).castLE hsub0

abbrev iRowK (L : Coords) : Memref sig .scVector .hbm S512 .i32 :=
  (iV).slice (Rect.unit (s := S16384) (k0_off1 L) S512.size (k0_off1_inb L)) (fun _ => rfl)
abbrev oRowK (L : Coords) : Memref sig .scVector .hbm S512x128 .f32 :=
  (oV).slice (Rect.unit (s := S16384x128) (k0_off2 L) S512x128.size (k0_off2_inb L)) (fun _ => rfl)
abbrev xAllK : Memref sig .scVector .hbm S8192x128 .f32 :=
  (xV).slice (Rect.unit (s := S8192x128) ![0, 0] S8192x128.size inb_S8192x128_S8192x128_0_0) (fun _ => rfl)

/-- A task's block of the indices and of the result, as sets of positions. -/
abbrev iSet (L : Coords) : Finset S16384.Idx := (iRowK L).view.set
abbrev oSet (L : Coords) : Finset S16384x128.Idx := (oRowK L).view.set

/-- Position `j` of the indices lies in task `(c, s)`'s block exactly if its block number is `2 s + c`. -/
theorem mem_iSet (L : Coords) (j : S16384.Idx) : j ∈ iSet L ↔ (j 0).val / 512 = 2 * (L 1).val + (L 0).val := by
  unfold iSet
  rw [show (iRowK L).view.set = (Rect.unit (s := S16384) (k0_off1 L) S512.size (k0_off1_inb L)).set from by
    show ((View.whole (main_arg1_scv : Ref sig .scVector)).slice _).set = _
    rw [View.set_slice]; exact Finset.map_refl]
  rw [Rect.mem_set_unit]
  simp only [k0_off1_eq]
  constructor
  · intro h
    have h0 := h 0
    simp only [Matrix.cons_val_zero, show S512.size 0 = 512 from rfl] at h0
    omega
  · intro h a
    match a with
    | 0 =>
      simp only [Matrix.cons_val_zero, show S512.size 0 = 512 from rfl]
      omega

/-- The same of the result's rows. -/
theorem mem_oSet (L : Coords) (j : S16384x128.Idx) : j ∈ oSet L ↔ (j 0).val / 512 = 2 * (L 1).val + (L 0).val := by
  unfold oSet
  rw [show (oRowK L).view.set = (Rect.unit (s := S16384x128) (k0_off2 L) S512x128.size (k0_off2_inb L)).set from by
    show ((View.whole (main_v1_scv : Ref sig .scVector)).slice _).set = _
    rw [View.set_slice]; exact Finset.map_refl]
  rw [Rect.mem_set_unit]
  simp only [k0_off2_eq]
  constructor
  · intro h
    have h0 := h 0
    simp only [Matrix.cons_val_zero, show S512x128.size 0 = 512 from rfl] at h0
    omega
  · intro h a
    match a with
    | 0 =>
      simp only [Matrix.cons_val_zero, show S512x128.size 0 = 512 from rfl]
      omega
    | 1 =>
      have := (j 1).isLt
      simp only [Matrix.cons_val_one, Matrix.cons_val_zero, show S512x128.size 1 = 128 from rfl, show S16384x128.size 1 = 128 from rfl] at this ⊢
      omega

/-- A place of the padded table. -/
def at2 (r : Fin 8192) (k : Fin 128) : S8192x128.Idx := fun a => match a with
  | ⟨0, _⟩ => r
  | ⟨1, _⟩ => k

/-- A position of the indices. -/
def at1 (r : Fin 16384) : S16384.Idx := fun a => match a with
  | ⟨0, _⟩ => r

/-- What the call leaves in the result: row `r` is the row of the table that index `r` names. -/
def gathered (tab : S8192x128.Idx → Elt F .f32) (ix : S16384.Idx → BitVec 32) : S16384x128.Idx → Elt F .f32 :=
  fun j => tab (at2 ⟨(ix (at1 (j 0))).toNat % 8192, Nat.mod_lt _ (by decide)⟩ (j 1))

variable [FloatOps F]

section Tile

variable (tab : S8192x128.Idx → Elt F .f32) (ix : S16384.Idx → BitVec 32) (o₀ : S16384x128.Idx → Elt F .f32)

/-- Every index names a row of the table. -/
def InRange : Prop := ∀ j : S16384.Idx, (ix j).toNat < 8192

/-- Task `(c, s)`'s number among the 32. -/
def taskNo (L : Coords) : Fin 32 :=
  ⟨2 * (L 1).val + (L 0).val, by
    have h0 : (L 0).val < 2 := (L 0).isLt
    have h1 : (L 1).val < 16 := (L 1).isLt
    omega⟩

/-- Its share of the table: one thirty-second. -/
abbrev xq (L : Coords) : PosShare TreeShare := pieceOf fullShare 32 (by decide) (taskNo L)

abbrev iPts (d : Dev nD) : sProp 𝕄 := iLoc d ↦{fullShare} ix
abbrev xPts (d : Dev nD) : sProp 𝕄 := xLoc d ↦{fullShare} tab
abbrev oPts (d : Dev nD) (f : S16384x128.Idx → Elt F .f32) : sProp 𝕄 := oLoc d ↦{fullShare} f
abbrev iRowPts (d : Dev nD) (L : Coords) : sProp 𝕄 := iLoc d ↦[iSet L]{fullShare} ix
abbrev xShPts (d : Dev nD) (L : Coords) : sProp 𝕄 := xLoc d ↦{xq L} tab
abbrev oRowPts (d : Dev nD) (L : Coords) (f : S16384x128.Idx → Elt F .f32) : sProp 𝕄 := oLoc d ↦[oSet L]{fullShare} f

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

variable (d : Dev nD) (L : Coords)

/-- The three semaphores a task uses, out of its own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  have hs : ∀ sm : SemLoc sig, sm.isScoped .scVector = true → ((V d (cV L) (jV L), sm) : GSem nD τ sig) ∈ ownCells (V d (cV L) (jV L)) :=
    fun sm h => mem_ownCells.mpr ⟨rfl, h⟩
  have hne : ∀ {a b : DmaSem sig}, a ≠ b → ((V d (cV L) (jV L), SemLoc.dma a) : GSem nD τ sig) ≠ (V d (cV L) (jV L), SemLoc.dma b) :=
    fun h e => h (SemLoc.dma.inj (Prod.mk.inj e).2)
  unfold SparseCore.Cfg.ownSems0
  rw [SparseCore.bigSep_erase' (hs (.dma cc0_scratch2.sem) (by decide)),
    SparseCore.bigSep_erase' (Finset.mem_erase.mpr ⟨hne (by decide), hs (.dma cc0_scoped0.sem) (by decide)⟩),
    SparseCore.bigSep_erase' (Finset.mem_erase.mpr ⟨hne (by decide), Finset.mem_erase.mpr ⟨hne (by decide), hs (.dma cc0_scoped1.sem) (by decide)⟩⟩)]

/-- The two scratch buffers, out of its own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have hm : ∀ r : Ref sig .scVector, ((Proc.scVector (cV L) (jV L)).devRef r).owner = ((Proc.scVector (cV L) (jV L)).devRef cc0_scratch0).owner →
      (Proc.scVector (cV L) (jV L)).devRef r ∈ ownRefs (τ := τ) (.scVector (cV L) (jV L)) :=
    fun r h => SparseCore.Cfg.mem_ownRefs_of_owner (p := Proc.scVector (cV L) (jV L)) (h.trans rfl)
  unfold SparseCore.Cfg.ownBufs
  refine (SparseCore.bigSep_erase' (hm cc0_scratch0 rfl)).trans ?_
  rw [SparseCore.bigSep_erase' (Finset.mem_erase.mpr ⟨fun e => absurd (Proc.devRef_injective _ e) (show (cc0_scratch1 : Ref sig .scVector) ≠ cc0_scratch0 by decide), hm cc0_scratch1 rfl⟩)]

/-- Index `j` of the block a task fetches is the whole list's at the block's offset. -/
theorem read_iRowK (j : S512.Idx) : (iRowK L).view.read (Elt F) ix j = ix ((iRowK L).view.emb j) :=
  (View.read_apply _ _).trans (cast_eq _ _)

/-- Contents written to the whole of a scratch buffer and read back. -/
theorem read_sV (fs pay : S512.Idx → BitVec 32) :
    View.read (Elt F) (sV).view (View.write (Elt F) (sV).view fs pay Finset.univ) = pay :=
  View.write_whole_univ (Val := Elt F) cc0_scratch0 fs pay
theorem read_rV (fr pay : S512x128.Idx → Elt F .f32) :
    View.read (Elt F) (rV).view (View.write (Elt F) (rV).view fr pay Finset.univ) = pay :=
  View.write_whole_univ (Val := Elt F) cc0_scratch1 fr pay

/-- The block a task writes, written with the rows its stream landed, is the gathered result there. -/
theorem oRow_eq (hin : InRange ix) (fo : S16384x128.Idx → Elt F .f32) (pay : S512x128.Idx → Elt F .f32) (w : S512.Idx → BitVec 32)
    (hi : ∀ x, (w x).toNat < S8192x128.size gathers_S8192x128_S512x128.axis) (hw : w = View.read (Elt F) (iRowK L).view ix)
    (hpay : pay = SparseCore.gatherPayload gathers_S8192x128_S512x128 (View.read (Elt F) (xAllK).view tab) (SparseCore.rows (F := F) w rfl hi)) :
    ∀ j ∈ oSet L, (oRowK L).view.writes (Elt F) fo [⟨Rect.whole S512x128, pay⟩] j = gathered tab ix j := by
  rw [← View.write_univ_eq_writes_whole (oRowK L).view fo [] pay]
  intro j hj
  obtain ⟨y, -, rfl⟩ := Finset.mem_map.mp hj
  rw [View.write_emb_of_mem _ _ (Finset.mem_univ y), cast_eq, hpay]
  unfold SparseCore.gatherPayload gathered
  rw [View.read_apply, cast_eq]
  congr 1
  funext a
  apply Fin.ext
  have hrow : ((oRowK L).view.emb y 0).val = k0_off2 L 0 + (y 0).val := by
    show (k0_off2 L 0 + 1 * (y 0).val) = _
    omega
  have hcol : ((oRowK L).view.emb y 1).val = (y 1).val := by
    show (k0_off2 L 1 + 1 * (y 1).val) = _
    rw [k0_off2_eq]; simp
  match a with
  | ⟨0, _⟩ =>
    have e1 : ((xAllK).view.emb (Shape.Gathers.idx gathers_S8192x128_S512x128 (SparseCore.rows (F := F) w rfl hi) y) ⟨0, by decide⟩).val
        = ((Shape.Gathers.idx gathers_S8192x128_S512x128 (SparseCore.rows (F := F) w rfl hi) y)
            (Shape.Gathers.axis gathers_S8192x128_S512x128)).val := by
      show (0 + 1 * _) = _
      rw [Nat.one_mul, Nat.zero_add]
    refine e1.trans ?_
    rw [Shape.Gathers.idx_axis]
    show (w _).toNat = (ix (at1 ((oRowK L).view.emb y 0))).toNat % 8192
    rw [Nat.mod_eq_of_lt (hin _), hw, read_iRowK]
    congr 2
    funext b
    match b with
    | ⟨0, _⟩ =>
      apply Fin.ext
      show _ = ((oRowK L).view.emb y 0).val
      refine Eq.trans ?_ hrow.symm
      show k0_off1 L 0 + 1 * ((S512.rowMajor.symm _) 0).val = _
      rw [k0_off1_eq, k0_off2_eq]
      have hr := Shape.rowMajor_val_one (S512.rowMajor.symm ((y (Shape.Gathers.axis' gathers_S8192x128_S512x128)).cast rfl))
      rw [Equiv.apply_symm_apply] at hr
      simp only [Matrix.cons_val_zero, one_mul]
      exact congrArg (1024 * (L 1).val + 512 * (L 0).val + ·) hr.symm
  | ⟨1, _⟩ =>
    refine Eq.trans ?_ hcol.symm
    show (0 + 1 * _) = _
    rw [Shape.Gathers.idx_of_ne gathers_S8192x128_S512x128 _ y ⟨1, by decide⟩ (by decide), Nat.one_mul, Nat.zero_add]
    rfl

/-- What the index fetch lands names rows of the table. -/
theorem inb_rows (hin : InRange ix) (fs pay : S512.Idx → BitVec 32) (hpay : pay = (iRowK L).view.read (Elt F) ix) :
    ∀ x, ((sV).view.read (Elt F) (View.write (Elt F) (sV).view fs pay Finset.univ) x).toNat < S8192x128.size gathers_S8192x128_S512x128.axis := by
  subst hpay; intro x
  rw [read_sV, read_iRowK]
  exact hin _

set_option maxHeartbeats 4000000 in
/-- A task, from its block of the indices, its share of the table and its block of the result, hands them back with the
    block of the result at the gathered rows. -/
theorem tile_body (hF : (K (F := F)).Facts) (hin : InRange ix) (O : CellTallies nD τ sig (HIx 1)) (W : Waits sig (HIx 1)) (hO : ∀ g, O g none = 0) :
    iprop(levAts (K (F := F)).L (K (F := F)).lev ∗ emp
        ∗ (iRowPts ix d L ∗ xShPts tab d L ∗ oRowPts d L o₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _)
            sV (Memref.isWhole_whole _) rV (Memref.isWhole_whole _) cc0_scratch2 cc0_scoped0 cc0_scoped1)
          fun _ => iprop((iRowPts ix d L ∗ xShPts tab d L ∗ oRowPts d L (gathered tab ix))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi := (Entails.of_eq (show (iRowPts ix d L : sProp 𝕄) = (iRowK L).view.loc (V d (cV L) (jV L)) ↦[(iRowK L).view.set]{fullShare} ix from rfl)) $$ Hi
  ihave Ho := (Entails.of_eq (show (oRowPts d L o₀ : sProp 𝕄) = (oRowK L).view.loc (V d (cV L) (jV L)) ↦[(oRowK L).view.set]{fullShare} o₀ from rfl)) $$ Ho
  ihave Hx := (Entails.of_eq (show (xShPts tab d L : sProp 𝕄) = (xV).view.loc (V d (cV L) (jV L)) ↦{xq L} tab from rfl)) $$ Hx
  ihave Hs := (Entails.of_eq (show ((V d (cV L) (jV L)).loc cc0_scratch0 ↦{fullShare} fs : sProp 𝕄) = (sV).view.loc (V d (cV L) (jV L)) ↦{fullShare} fs from rfl)) $$ Hs
  ihave Hr := (Entails.of_eq (show ((V d (cV L) (jV L)).loc cc0_scratch1 ↦{fullShare} fr : sProp 𝕄) = (rV).view.loc (V d (cV L) (jV L)) ↦{fullShare} fr from rfl)) $$ Hr
  sl_exec
  have hsp : ((xV).view.loc (V d (cV L) (jV L)) ↦{xq L} tab : sProp 𝕄)
      ⊣⊢ iprop(((xAllK).view.loc (V d (cV L) (jV L)) ↦[(xAllK).view.set]{xq L} tab)
        ∗ (xV).view.loc (V d (cV L) (jV L)) ↦[Finset.univ \ (xAllK).view.set]{xq L} tab) :=
    pointsTo_split_subset (Finset.subset_univ (xAllK).view.set)
  ihave Hxs := hsp.1 $$ Hx
  icases Hxs with ⟨Hxs, Hxr⟩
  have hrs : (rV).view.set = Finset.univ := View.set_whole _
  have hss : (sV).view.set = Finset.univ := View.set_whole _
  ihave Hr := (Entails.of_eq (show ((rV).view.loc (V d (cV L) (jV L)) ↦{fullShare} fr : sProp 𝕄)
      = (rV).view.loc (V d (cV L) (jV L)) ↦[(rV).view.set]{fullShare} fr by rw [hrs])) $$ Hr
  ihave Hs := (Entails.of_eq (show ((sV).view.loc (V d (cV L) (jV L)) ↦{fullShare} View.write (Elt F) (sV).view fs (tile_body.sl.dma0 ix L) Finset.univ : sProp 𝕄)
      = (sV).view.loc (V d (cV L) (jV L)) ↦[(sV).view.set]{fullShare} View.write (Elt F) (sV).view fs (tile_body.sl.dma0 ix L) Finset.univ
      by rw [hss])) $$ Hs
  have hN : ∀ h : S8192x128.Gathers 0 S512x128, ∑ j, ((rV).slice (S512x128.rowRect h.axis' j) (S512x128.stride_rowRect h.axis' j)).view.dmaCredit
      = (rV).view.dmaCredit := by decide
  have hpay : tile_body.sl.dma0 ix L = View.read (Elt F) (iRowK L).view ix := rfl
  iapply (SparseCore.wp_indirectGatherLocal countersEmb 𝒱₀ (V d (cV L) (jV L)) none (hg := gathers_S8192x128_S512x128) (default : HIx 1)
      (rV).view.dmaCredit (hN _) (by decide) (inb_rows ix L hin fs _ hpay)) $$ [Hxs Hr Hs HsemA]
  · isplitl [Hxs]; · iexact Hxs
    isplitl [Hr]; · iexact Hr
    isplitl [Hs]; · iexact Hs
    iexact HsemA
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Hxs, Hs⟩, HsemA, HO⟩
  ihave Hx := hsp.2 $$ [Hxs Hxr]
  · isplitl [Hxs] <;> iassumption
  ihave Hr := (Entails.of_eq (show ((rV).view.loc (V d (cV L) (jV L)) ↦[(rV).view.set]{fullShare} _ : sProp 𝕄)
      = (rV).view.loc (V d (cV L) (jV L)) ↦{fullShare} _ by rw [hrs])) $$ Hr
  ihave Hs := (Entails.of_eq (show ((sV).view.loc (V d (cV L) (jV L)) ↦[(sV).view.set]{fullShare} _ : sProp 𝕄)
      = (sV).view.loc (V d (cV L) (jV L)) ↦{fullShare} _ by rw [hss])) $$ Hs
  sl_exec
  sl_step
  isplitl [Hi Hx Ho]
  · isplitl [Hi]; · iexact Hi
    isplitl [Hx]; · iexact Hx
    have hp1 : tile_body.sl.dma0_1 tab ix d L hin fs fr hpay = SparseCore.gatherPayload gathers_S8192x128_S512x128 (View.read (Elt F) (xAllK).view tab)
        (SparseCore.rows (F := F) (View.read (Elt F) (sV).view (View.write (Elt F) (sV).view fs (tile_body.sl.dma0 ix L) Finset.univ)) rfl
          (inb_rows ix L hin fs _ hpay)) := by
      unfold tile_body.sl.dma0_1
      exact read_rV (F := F) fr _
    have hw := oRow_eq tab ix L hin o₀ (tile_body.sl.dma0_1 tab ix d L hin fs fr hpay)
      (View.read (Elt F) (sV).view (View.write (Elt F) (sV).view fs (tile_body.sl.dma0 ix L) Finset.univ)) (inb_rows ix L hin fs _ hpay)
      (read_sV (F := F) fs _) hp1
    iapply (Entails.of_eq (pointsTo_congr hw)) $$ Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Gather

end
-- ==== Proof.Gather.Run.lean ====
/-
  The row gather's program run: the table padded to 128 lanes by the host, the SparseCore call, the first 32 lanes of its
  result sliced off by the host; every execution ends with the result at that slice of the gathered rows.
-/
module

public import proofs.«01_k».proof.Proof.Gather.Call

@[expose] public section

noncomputable section

namespace Cert.Proof.Gather

open Cert.Gather Cert.Gather.Gen Cert.Proof.Host

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after TRef nullary unary wp_seq)

variable {F : FTy → Type} [FloatOps F]

local notation "𝕄" => MT nD τ sig (HIx 1) (Elt F) ℕ UU ℕ

/-! ## @main as host operations around the call -/

/-- The host operations before the call: the padding. -/
abbrev opsA : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8192x32, .f32⟩) main_arg0) (TRef.of (T := ⟨S_, .f32⟩) main_call0_v0) (TRef.of (T := ⟨S8192x128, .f32⟩) main_v0)
      (fun x v => pad S8192x128 ![0, 0] ![0, 96] ![0, 0] x v pads_S8192x32_S8192x128_000_0960 h_S_) ]

/-- The host operation after it: the slice. -/
abbrev opsB : List (HloOp τ sig (Elt F)) :=
  [ unary main_v1 main_v2 ((extractStridedSlice S16384x32 ![0, 0] · slices_S16384x128_S16384x32_0_0) : (⟨S16384x128, .f32⟩ : BufTy).Contents (Elt F) → (⟨S16384x32, .f32⟩ : BufTy).Contents (Elt F)) ]

theorem main_eq (d : Dev nD) : main (F := F) d = (seq opsA >>= fun _ => (K (F := F)).run d 0 >>= fun _ => seq opsB) := rfl

theorem opsA_sub : ∀ op ∈ (opsA : List (HloOp τ sig (Elt F))), op.bufs ⊆ hostBufs τ sig := by
  intro op h
  simp only [List.mem_cons, List.not_mem_nil, or_false] at h
  rcases h with rfl | rfl | rfl
  · exact nullary_sub rfl _ _
  · exact unary_sub rfl rfl _ _ _
  · exact binary_sub rfl rfl rfl _ _ _ _
theorem opsB_sub : ∀ op ∈ (opsB : List (HloOp τ sig (Elt F))), op.bufs ⊆ hostBufs τ sig := by
  intro op h
  simp only [List.mem_cons, List.not_mem_nil, or_false] at h
  rcases h with rfl
  exact unary_sub rfl rfl _ _ _
theorem opsA_fresh : ∀ op ∈ (opsA : List (HloOp τ sig (Elt F))), op.fresh = ∅ := by
  intro op h
  simp only [List.mem_cons, List.not_mem_nil, or_false] at h
  rcases h with rfl | rfl | rfl <;> rfl
theorem opsB_fresh : ∀ op ∈ (opsB : List (HloOp τ sig (Elt F))), op.fresh = ∅ := by
  intro op h
  simp only [List.mem_cons, List.not_mem_nil, or_false] at h
  rcases h with rfl <;> rfl

/-! ## The contents along the run -/

abbrev oDev : DevRef τ sig := Proc.devRef .tc oRef

variable (m : (ℓ : Loc nD τ sig) → Buf (Elt F) ℓ) (ρ : Dev nD → PrngReg)

/-- A device's buffers at the launch, after the padding, after the call, at the end. -/
def V₀ (d : Dev nD) : Valuation τ sig (Elt F) := fun b => m (d, b)
def V₁ (d : Dev nD) : Valuation τ sig (Elt F) := after opsA (V₀ m d)
def tabOf (d : Dev nD) : S8192x128.Idx → Elt F .f32 := V₁ m d (Proc.devRef .tc xRef)
def ixOf (d : Dev nD) : S16384.Idx → BitVec 32 := V₁ m d (Proc.devRef .tc iRef)
def resOf (d : Dev nD) : S16384x128.Idx → Elt F .f32 := V₁ m d oDev
def V₂ (d : Dev nD) : Valuation τ sig (Elt F) := Function.update (V₁ m d) oDev (gathered (tabOf m d) (ixOf m d))
def V₃ (d : Dev nD) : Valuation τ sig (Elt F) := after opsB (V₂ m d)

/-- The table the call reads is the padded argument; the indices are the argument; the result is the slice. -/
theorem tabOf_eq (d : Dev nD) : tabOf m d = pad S8192x128 ![0, 0] ![0, 96] ![0, 0] (m ((SparseCore.T d).loc main_arg0)) (sitofp .f32 (constantI S_ 32 0#32)) pads_S8192x32_S8192x128_000_0960 h_S_ := by
  unfold tabOf V₁
  simp only [opsA, TRef.binary, TRef.nullary, TRef.ternary, TRef.unary, TRef.toBuf, TRef.ofBuf, cast_eq]
  after_results <;> rfl
theorem ixOf_eq (d : Dev nD) : ixOf m d = m ((SparseCore.T d).loc main_arg1) := by
  unfold ixOf V₁
  simp only [opsA, TRef.binary, TRef.nullary, TRef.ternary, TRef.unary, TRef.toBuf, TRef.ofBuf, cast_eq]
  after_results <;> rfl
theorem V₃_v2 (d : Dev nD) : V₃ m d (Proc.devRef .tc main_v2)
    = (extractStridedSlice S16384x32 ![0, 0] · slices_S16384x128_S16384x32_0_0) (gathered (tabOf m d) (ixOf m d)) := by
  unfold V₃
  after_results
  rfl
theorem V₃_arg0 (d : Dev nD) : V₃ m d (Proc.devRef .tc main_arg0) = m ((SparseCore.T d).loc main_arg0) := by
  unfold V₃
  simp only [opsB]
  after_results
  unfold V₂ V₁
  rw [Function.update_of_ne (by decide)]
  simp only [opsA, TRef.binary, TRef.nullary, TRef.ternary, TRef.unary, TRef.toBuf, TRef.ofBuf, cast_eq]
  after_results <;> rfl
theorem V₃_arg1 (d : Dev nD) : V₃ m d (Proc.devRef .tc main_arg1) = m ((SparseCore.T d).loc main_arg1) := by
  unfold V₃
  simp only [opsB]
  after_results
  unfold V₂ V₁
  rw [Function.update_of_ne (by decide)]
  simp only [opsA, TRef.binary, TRef.nullary, TRef.ternary, TRef.unary, TRef.toBuf, TRef.ofBuf, cast_eq]
  after_results <;> rfl

/-! ## The launch element -/

def u₀ : UU := (initOf (K (F := F)).hsCells (K (F := F)).hsToks, 1)

/-- What the call's handshakes carry in this program. -/
abbrev PP : (K (F := F)).Pay (nD := nD) (Val := Elt F) (Name := ℕ) (U := UU) := P (tabOf m) (ixOf m) (resOf m)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  have hemp : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [hemp]; iempintro
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), hemp]
  iempintro

/-! ## @main on the TensorCore -/

abbrev rest : Finset (DevRef τ sig) := (((hostBufs τ sig).erase (Proc.devRef .tc iRef)).erase (Proc.devRef .tc xRef)).erase oDev

/-- The call's three operands out of the buffers held. -/
theorem held_operands (d : Dev nD) (V : Valuation τ sig (Elt F)) :
    (held (SparseCore.T d) (hostBufs τ sig) V : sProp 𝕄)
      = iprop(iPts (V (Proc.devRef .tc iRef)) d ∗ xPts (V (Proc.devRef .tc xRef)) d ∗ oPts d (V oDev) ∗ held (SparseCore.T d) rest V) := by
  rw [held_take (SparseCore.T d) (b := Proc.devRef .tc iRef) (mem_hostBufs rfl),
    held_take (SparseCore.T d) (b := Proc.devRef .tc xRef) (Finset.mem_erase.mpr ⟨by decide, mem_hostBufs rfl⟩),
    held_take (SparseCore.T d) (b := oDev) (Finset.mem_erase.mpr ⟨by decide, Finset.mem_erase.mpr ⟨by decide, mem_hostBufs rfl⟩⟩)]

abbrev FIN (d : Dev nD) : sProp 𝕄 := held (SparseCore.T d) (hostBufs τ sig) (V₃ m d)

/-- @main on device `d`'s TensorCore: the padding, the call, the slice. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (hostBufs τ sig) (V₀ m d) from unscopedBufs_held d (V₀ m d), main_eq]
  iintro ⟨#Hctx, Hst, ⟨Hb, Hbufs, Hts, -⟩, -⟩
  iapply (wp_seq 𝒱 none Set.univ d (hostBufs τ sig) _ opsA opsA_sub opsA_fresh (V₀ m d)) $$ [Hb Hbufs]
  · isplitl [Hb] <;> iassumption
  iintro ⟨Hb, Hbufs⟩
  ihave Hbufs' := (Entails.of_eq (show (held d.tc (hostBufs τ sig) (after opsA (V₀ m d)) : sProp 𝕄)
      = iprop(iPts (ixOf m d) d ∗ xPts (tabOf m d) d ∗ oPts d (resOf m d) ∗ held (SparseCore.T d) rest (V₁ m d)) from held_operands d (V₁ m d))) $$ Hbufs
  icases Hbufs' with ⟨Hi, Hx, Ho, Hrest⟩
  rw [wp_bind]
  iapply ((K (F := F)).wp_run (D (F := F)) 𝒱 (EH := EH) (P := PP m) κ d 0) $$ [Hst Hi Hx Ho Hb Hts Hrest]
  isplitr; · iexact Hctx
  isplitl [Hst]; · iexact Hst
  isplitl [Hi Hx Ho]
  · rw [st_eq]
    isplitl [Hi]; · iexact Hi
    isplitl [Hx]; · iexact Hx
    iexact Ho
  iintro ⟨Hst, Hdn⟩
  ihave Hdn' := (Entails.of_eq (dn_eq (tabOf m) (ixOf m) (resOf m) d)) $$ Hdn
  icases Hdn' with ⟨Hi, Hx, Ho⟩
  ihave Hbufs := (Entails.of_eq (show (iprop(iPts (ixOf m d) d ∗ xPts (tabOf m d) d ∗ oPts d (gathered (tabOf m d) (ixOf m d)) ∗ held (SparseCore.T d) rest (V₁ m d)) : sProp 𝕄)
      = held (SparseCore.T d) (hostBufs τ sig) (V₂ m d) by
    rw [held_operands]; unfold V₂
    rw [Function.update_self, Function.update_of_ne (by decide), Function.update_of_ne (by decide),
      held_congr (SparseCore.T d) (S := rest) (V := Function.update (V₁ m d) oDev _) (V' := V₁ m d) fun b hb => Function.update_of_ne (Finset.ne_of_mem_erase hb) _ _]
    rfl)) $$ [Hi Hx Ho Hrest]
  · isplitl [Hi]; · iexact Hi
    isplitl [Hx]; · iexact Hx
    isplitl [Ho] <;> iassumption
  rw [show (seq opsB : Prog (TpuEff nD τ sig (Elt F) _ .tc) PUnit) = (seq opsB >>= pure) from (bind_pure _).symm]
  iapply (wp_seq 𝒱 none Set.univ d (hostBufs τ sig) pure opsB opsB_sub opsB_fresh (V₂ m d)) $$ [Hb Hbufs]
  · isplitl [Hb] <;> iassumption
  iintro ⟨Hb, Hbufs⟩
  rw [wp_pure]
  imodintro
  isplitl [Hst]; · iexact Hst
  isplitl [Hbufs]; · iexact Hbufs
  isplitl [Hb] <;> iassumption

def fq (d : Dev nD) (s' : Phys nD τ sig (Elt F)) : Prop := ∀ b ∈ hostBufs τ sig, s'.mem.mem (d, b) = V₃ m d b

theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') (c := d) (qs := fun _ => fullShare) (F := V₃ m d) (hostBufs τ sig))
  isplitl [HSI]; · iexact HSI
  iexact H

/-- Every weakly fair execution of the gather's program, its indices in the table's range, ends with the result at the
    first 32 lanes of the gathered rows of the padded table, the arguments and every semaphore as at the start. -/
theorem run_main [∀ e, Nonempty (Elt F e)] (hin : ∀ d, InRange (m ((SparseCore.T d).loc main_arg1))) :
    θ_run (Cert.Gather.defs (F := F)) (Cert.Gather.threads (F := F)) ⟨m, fun _ => 0, ρ⟩ (fun r => (∀ d : Dev nD,
      r.2.mem ((SparseCore.T d).loc main_v2) = (extractStridedSlice S16384x32 ![0, 0] · slices_S16384x128_S16384x32_0_0)
          (gathered (pad S8192x128 ![0, 0] ![0, 96] ![0, 0] (m ((SparseCore.T d).loc main_arg0)) (sitofp .f32 (constantI S_ 32 0#32)) pads_S8192x32_S8192x128_000_0960 h_S_) (m ((SparseCore.T d).loc main_arg1)))
      ∧ r.2.mem ((SparseCore.T d).loc main_arg0) = m ((SparseCore.T d).loc main_arg0)
      ∧ r.2.mem ((SparseCore.T d).loc main_arg1) = m ((SparseCore.T d).loc main_arg1)) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tabOf m) (ixOf m) (resOf m) fun d => by rw [ixOf_eq]; exact hin d)
    (fun q _ => match q with | 0 => SparseCore.Cfg.VecSplit.of_plain (vecSplit (tabOf m) (ixOf m) (resOf m)))
    m ρ main (fun _ => iprop(emp)) (FIN m) (u₀ (F := F)) (sep_elim_left.trans (hu₀ m)) (hmain m ρ) (fq m) (hfin m) _
    (fun _ h hz => ⟨fun d => ⟨by
        rw [← tabOf_eq m d, ← ixOf_eq m d, ← V₃_v2 m d]; exact h d _ (mem_hostBufs rfl),
      (h d _ (mem_hostBufs rfl)).trans (V₃_arg0 m d), (h d _ (mem_hostBufs rfl)).trans (V₃_arg1 m d)⟩, hz⟩)

end Cert.Proof.Gather

end
-- ==== Proof.Rows.lean ====
/-
  The rows of a table at an array of row numbers: jnp.take of in-range row numbers reads them, and so does the padded
  table's gather with the padding sliced off again.
-/
module

public import Idealize.ShloMosaic.Lib.ValueIdxCore
public import Idealize.ShloMosaic.Lib.ReduceAll
public import Idealize.ShloMosaic.Lib.WordCmp
public import Idealize.ShloMosaic.Lib.KernelVsHost
public import Idealize.ShloMosaic.Lib.Exec

@[expose] public section

noncomputable section

namespace Cert.Proof.Rows

open Idealize.ShloMosaic Idealize.ShloMosaic.ValueIdx Idealize.ShloMosaic.WordCmp

abbrev STab : Shape := ⟨2, ![8192, 32]⟩
abbrev SWide : Shape := ⟨2, ![8192, 128]⟩
abbrev SIdx : Shape := ⟨1, ![16384]⟩
abbrev SIdx1 : Shape := ⟨2, ![16384, 1]⟩
abbrev SRows : Shape := ⟨2, ![16384, 32]⟩
abbrev S0 : Shape := ⟨0, ![]⟩
abbrev S1' : Shape := ⟨1, ![1]⟩
abbrev S11 : Shape := ⟨2, ![1, 1]⟩

/-- The table's rows at the row numbers. -/
def rowsOf {α : Type} (w : STab.Idx → α) (ix : SIdx.Idx → BitVec 32) : SRows.Idx → α :=
  fun j => w (ix2 ⟨(ix (ix1 (j 0))).toNat % 8192, Nat.mod_lt _ (by decide)⟩ (j 1))

/-- The dimension numbers of `lax.gather` taking whole rows of 32 at one row number each. -/
abbrev rowsDims (wf : GatherDims.WF STab SIdx1 SRows [1] [0] [] [0] [] 1 ![1, 32]) : GatherDims STab SIdx1 SRows where
  offsetDims := [1]
  collapsedSliceDims := [0]
  operandBatchingDims := []
  startIndicesBatchingDims := []
  startIndexMap := [0]
  indexVectorDim := 1
  sliceSizes := ![1, 32]
  wf := wf

/-- That gather read at `(r, k)`: the operand's row at start index `r`, signed and clamped, lane `k`. -/
theorem gather_rows_apply {α : Type} (wf : GatherDims.WF STab SIdx1 SRows [1] [0] [] [0] [] 1 ![1, 32])
    (x : STab.Idx → α) (idx : IVec SIdx1 32) (y : SRows.Idx) :
    Host.gather (rowsDims wf) x idx y = x (ix2 ⟨min (idx (ix2 (y 0) 0)).toInt.toNat 8191, by omega⟩ (y 1)) := by
  unfold Host.gather
  congr 1
  funext a
  refine Fin.ext ?_
  show (rowsDims wf).start y idx a + (rowsDims wf).batchCoord y a + (rowsDims wf).offCoord y a = _
  rw [GatherDims.batchCoord_eq_zero _ _ _ (List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wf).startIndexMap from List.mem_singleton.mpr rfl)]
    have hsi : (rowsDims wf).siIdx y ⟨List.idxOf (0 : Fin 2) (rowsDims wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  · unfold GatherDims.start
    rw [dif_neg (show ¬ (1 : Fin 2) ∈ (rowsDims wf).startIndexMap by simp)]
    unfold GatherDims.offCoord
    rw [dif_pos (show (1 : Fin 2) ∈ (rowsDims wf).sKept from (GatherDims.mem_sKept _ _).mpr ⟨by simp, by simp⟩)]
    simp only [Nat.zero_add, Nat.add_zero]
    rfl

section Take

variable {F : FTy → Type} [FloatOps F] (w : FVec F STab .f32) (ix : IVec SIdx 32)

/-- jnp.take's row number with negative ones counted from the end. -/
abbrev normIx (h0 : S0.BroadcastsInDim SIdx (![] : Fin 0 → Fin SIdx.rank)) : IVec SIdx 32 :=
  select (cmpi .slt ix (broadcastInDim SIdx ![] h0 (constantI S0 32 0#32))) (addi ix (broadcastInDim SIdx ![] h0 (constantI S0 32 8192#32))) ix

/-- A row number in range is left as it is. -/
theorem normIx_eq (h0) (hin : ∀ j, (ix j).toNat < 8192) : normIx ix h0 = ix := by
  funext j
  show Scalar.select (IntOp.cmpi .slt (ix j) 0#32) _ _ = ix j
  rw [cmpi_slt_zero, show decide (2 ^ (32 - 1) ≤ (ix j).toNat) = false from decide_eq_false (by have := hin j; omega)]
  rfl

/-- jnp.take of rows at row numbers in range: the rows. -/
theorem take_eq (hin : ∀ j, (ix j).toNat < 8192) (h0 : S0.BroadcastsInDim SIdx (![] : Fin 0 → Fin SIdx.rank))
    (h1 : SIdx.BroadcastsInDim SIdx1 ![0]) (h2 : S0.BroadcastsInDim SIdx1 (![] : Fin 0 → Fin SIdx1.rank))
    (h3 : S11.BroadcastsInDim SIdx1 ![0, 1]) (h4 : S1'.BroadcastsInDim S11 ![1]) (h5 : SIdx1.ReducesTo [1] SIdx) (h6 : 0 < S0.numel)
    (h7 : SIdx.BroadcastsInDim SRows ![0]) (h8 : S0.BroadcastsInDim SRows (![] : Fin 0 → Fin SRows.rank))
    (wf : GatherDims.WF STab SIdx1 SRows [1] [0] [] [0] [] 1 ![1, 32]) (c : FVec F S0 .f32) :
    select (broadcastInDim SRows ![0] h7
        (Host.reduce IntOp.andi
          (andi (cmpi .sge (broadcastInDim SIdx1 ![0] h1 (normIx ix h0)) (broadcastInDim SIdx1 ![] h2 (constantI S0 32 0#32)))
            (cmpi .sle (broadcastInDim SIdx1 ![0] h1 (normIx ix h0)) (broadcastInDim SIdx1 ![0, 1] h3 (broadcastInDim S11 ![1] h4 (constantI S1' 32 8191#32)))))
          (constantI S0 1 1#1) h5 h6))
      (Host.gather (rowsDims wf) w (broadcastInDim SIdx1 ![0] h1 (normIx ix h0)))
      (broadcastInDim SRows ![] h8 c) = rowsOf w ix := by
  rw [normIx_eq ix h0 hin]
  funext j
  have hb : ∀ i, broadcastInDim SIdx1 ![0] h1 ix i = ix (ix1 (i 0)) := fun i => by
    unfold broadcastInDim
    congr 1
    funext a
    match a with
    | ⟨0, _⟩ => exact Fin.ext rfl
  have hm : ∀ i : SIdx1.Idx, IntOp.andi (IntOp.cmpi .sge (ix (ix1 (i 0))) 0#32) (IntOp.cmpi .sle (ix (ix1 (i 0))) 8191#32) = 1#1 := fun i => by
    have hl : IntOp.cmpi .sle (ix (ix1 (i 0))) 8191#32 = 1#1 := by
      have := hin (ix1 (i 0))
      show BitVec.ofBool (BitVec.sle _ _) = 1#1
      rw [BitVec.sle_eq_decide, BitVec.toInt_eq_toNat_cond, BitVec.toInt_eq_toNat_cond, if_pos (by omega), if_pos (by decide)]
      rw [decide_eq_true (by show ((ix (ix1 (i 0))).toNat : ℤ) ≤ 8191; omega)]
      rfl
    rw [cmpi_sge_zero, hl, decide_eq_true (by have := hin (ix1 (i 0)); omega)]
    rfl
  rw [show broadcastInDim SIdx1 ![0] h1 ix = fun i => ix (ix1 (i 0)) from funext hb]
  have hs : ∀ (b : BitVec 1) (x y : F .f32), b = 1#1 → Scalar.select b x y = x := fun b x y e => by subst e; rfl
  refine (hs _ _ _ ?_).trans ?_
  · unfold broadcastInDim
    exact Host.reduce_andi_one _ _ _ _ _ rfl fun i => hm i
  · rw [gather_rows_apply]
    unfold rowsOf
    have h := hin (ix1 (j 0))
    exact congrArg (fun r : Fin 8192 => w (ix2 r (j 1))) (Fin.ext (by
      show min (ix (ix1 (j 0))).toInt.toNat 8191 = (ix (ix1 (j 0))).toNat % 8192
      rw [BitVec.toInt_eq_toNat_cond, if_pos (by omega), Int.toNat_natCast, Nat.mod_eq_of_lt h]
      omega))

/-- The first 32 lanes of the rows of the table padded to 128 lanes are the table's rows. -/
theorem pad_rows (h : STab.Pads (![0, 0] : Fin 2 → Nat) ![0, 96] ![0, 0] SWide) (h6 : 0 < S0.numel) (c : FVec F S0 .f32) (r : Fin 8192) (k : Fin 32) (i : SWide.Idx)
    (h0 : (i 0).val = r.val) (h1 : (i 1).val = k.val) :
    pad SWide ![0, 0] ![0, 96] ![0, 0] w c h h6 i = w (ix2 r k) := by
  unfold pad
  rw [dif_pos]
  · congr 1
    funext a
    match a with
    | ⟨0, _⟩ => exact Fin.ext (by show ((i 0).val - 0) / (0 + 1) = r.val; omega)
    | ⟨1, _⟩ => exact Fin.ext (by show ((i 1).val - 0) / (0 + 1) = k.val; omega)
  · intro a
    have := r.isLt; have := k.isLt
    match a with
    | ⟨0, _⟩ => exact ⟨Nat.zero_le _, Nat.mod_one _, by show ((i 0).val - 0) / (0 + 1) < 8192; omega⟩
    | ⟨1, _⟩ => exact ⟨Nat.zero_le _, Nat.mod_one _, by show ((i 1).val - 0) / (0 + 1) < 32; omega⟩

end Take

end Cert.Proof.Rows

end
-- ==== Proof.Gather.Claims.lean ====
/-
  The row gather's claims: its program ends with its arguments and semaphores as they were, and with the rows that
  jnp.take reads.
-/
module

public import proofs.«01_k».proof.Proof.Gather.Run
public import proofs.«01_k».proof.Proof.Rows
public import proofs.«01_k».proof.Proof.Gen.Take
public import proofs.«01_k».proof.Proof.Gen.Take.Run
public import proofs.«01_k».proof.Proof.Gen.Pre_indices_in_range

@[expose] public section

noncomputable section

namespace Cert.Proof.Gather

open Cert.Gather Cert.Gather.Gen Cert.Proof.Rows

open Idealize.ShloMosaic Idealize.ShloMosaic.TcCoe Idealize.ShloMosaic.ValueIdx Idealize.SL.Sem

variable {F : FTy → Type} [FloatOps F]

/-- The first 32 lanes of the gathered rows of the padded table are the table's rows. -/
theorem slice_gathered (w : FVec F STab .f32) (ix : IVec SIdx 32) (c : FVec F S0 .f32) :
    (extractStridedSlice S16384x32 ![0, 0] · slices_S16384x128_S16384x32_0_0)
      (gathered (F := F) (pad S8192x128 ![0, 0] ![0, 96] ![0, 0] w c pads_S8192x32_S8192x128_000_0960 h_S_) ix) = rowsOf w ix := by
  funext j
  exact pad_rows w pads_S8192x32_S8192x128_000_0960 h_S_ c ⟨(ix (ix1 (j 0))).toNat % 8192, Nat.mod_lt _ (by decide)⟩ (j 1) _
    (congrArg (fun i : SIdx.Idx => (ix i).toNat % 8192) (funext fun a => match a with | ⟨0, _⟩ => Fin.ext (Nat.zero_add _)))
    (Nat.zero_add _)

/-- The precondition's bit gives every row number below 8192. -/
theorem inRange_of_pre (w : FVec F STab .f32) (ix : IVec SIdx 32) (h : Cert.Pre_indices_in_range.fn (F := F) w ix = fun _ => 1#1) : InRange ix := by
  intro j
  have hs : Subsingleton (⟨0, ![]⟩ : Shape).Idx := ⟨fun a b => funext fun i => i.elim0⟩
  have e := Host.reduce_andi_all _ _ _ _ (fun a => a.elim0) (congrFun h fun a => a.elim0) j
  have e' : IntOp.andi (IntOp.cmpi .sge (ix j) 0#32) (IntOp.cmpi .slt (ix j) (BitVec.ofNat 32 8192)) = 1#1 := e
  rw [WordCmp.andi_sge_zero_slt_ofNat (by decide)] at e'
  by_contra hn
  rw [decide_eq_false hn] at e'
  exact absurd e' (by decide)

/-- `Cert.quiescent_Gather` (Defs.lean). -/
theorem quiescent : Cert.quiescent_Gather := fun m ρ hpre =>
  (θ_run Cert.Gather.defs _ _).mono (fun _ h => ⟨fun d => (h.1 d).2, h.2⟩) (run_main (F := Bits) m ρ fun d => inRange_of_pre _ _ (hpre d))

/-- `Cert.quiescent_Take` (Defs.lean). -/
theorem quiescent_take : Cert.quiescent_Take := fun m ρ _ =>
  (θ_run Cert.Take.defs _ _).mono (fun r h => ⟨fun c => (h c).2, Idealize.ShloMosaic.sem_eq_zero_of_no_sems (by decide) r.2⟩)
    (Cert.Take.Value.run (F := Bits) m ρ)

set_option maxRecDepth 16384 in
/-- `Cert.bitexact_Gather_Take` (Defs.lean): the gather's result is jnp.take's, bit for bit. -/
theorem bitexact : Cert.bitexact_Gather_Take := by
  intro m ρ m' ρ' hpre hagree
  have hin : ∀ d : Dev nD, InRange (m ((SparseCore.T d).loc main_arg1)) := fun d => inRange_of_pre _ _ (hpre d)
  refine ⟨fun d => rowsOf (m ((SparseCore.T d).loc main_arg0)) (m ((SparseCore.T d).loc main_arg1)),
    (θ_run Cert.Gather.defs _ _).mono (fun _ h d => ⟨(h.1 d).1.trans (slice_gathered _ _ _), (h.1 d).2⟩) (run_main (F := Bits) m ρ hin),
    (θ_run Cert.Take.defs _ _).mono (fun _ h d => ⟨(h d).1.trans ?_, (h d).2⟩) (Cert.Take.Value.run (F := Bits) m' ρ')⟩
  rw [(hagree d).1, (hagree d).2]
  exact take_eq (F := Bits) (m ((SparseCore.T d).loc main_arg0)) (m ((SparseCore.T d).loc main_arg1)) (hin d)
    Cert.Take.Gen.bcast_S_S16384 Cert.Take.Gen.bcast_S16384_S16384x1_0 Cert.Take.Gen.bcast_S_S16384x1 Cert.Take.Gen.bcast_S1x1_S16384x1_0_1
    Cert.Take.Gen.bcast_S1_S1x1_1 Cert.Take.Gen.reducesTo_S16384x1_S16384_d1 Cert.Take.Gen.h_S_ Cert.Take.Gen.bcast_S16384_S16384x32_0
    Cert.Take.Gen.bcast_S_S16384x32 Cert.Take.Gen.gather_S8192x32_S16384x1_S16384x32_1_0_n_n_0_1_132_wf _

end Cert.Proof.Gather

end
-- ==== Proof.First.lean ====
/-
  The first place at which a finite sequence is least, and three ways of computing it: a running minimum with strict
  comparisons, the least of several interleaved running minima with the smaller position taken among equals, and the
  smaller of two halves with the first half taken among equals.
-/
module

public import Mathlib.Order.Basic
public import Mathlib.Order.Lattice
public import Mathlib.Data.EReal.Basic
public import Idealize.ShloMosaic.PureOps.Ideal

@[expose] public section

namespace Cert.Proof.First

variable {α : Type} [LinearOrder α]

/-- `i` is the first place below `n` at which `g` is least, and `m` its value there. -/
structure IsFirst (g : ℕ → α) (n i : ℕ) (m : α) : Prop where
  lt : i < n
  at_ : g i = m
  le : ∀ c, c < n → m ≤ g c
  strict : ∀ c, c < i → m < g c

/-- The first least place is unique, and so is its value. -/
theorem IsFirst.unique {g : ℕ → α} {n i i' : ℕ} {m m' : α} (h : IsFirst g n i m) (h' : IsFirst g n i' m') :
    i = i' ∧ m = m' := by
  have e : m = m' := le_antisymm (h'.at_ ▸ h.le i' h'.lt) (h.at_ ▸ h'.le i h.lt)
  refine ⟨?_, e⟩
  rcases lt_trichotomy i i' with hl | hl | hl
  · have := h'.strict i hl; rw [h.at_, e] at this; exact absurd this (lt_irrefl _)
  · exact hl
  · have := h.strict i' hl; rw [h'.at_, e] at this; exact absurd this (lt_irrefl _)

/-- Sequences that agree below `n` have the same first least place. -/
theorem IsFirst.congr {g g' : ℕ → α} {n i : ℕ} {m : α} (h : IsFirst g n i m) (e : ∀ c, c < n → g c = g' c) :
    IsFirst g' n i m :=
  ⟨h.lt, (e i h.lt) ▸ h.at_, fun c hc => (e c hc) ▸ h.le c hc, fun c hc => (e c (hc.trans h.lt)) ▸ h.strict c hc⟩

/-- One term alone. -/
theorem IsFirst.one (g : ℕ → α) : IsFirst g 1 0 (g 0) :=
  ⟨by omega, rfl, fun c hc => by obtain rfl : c = 0 := by omega
                                 exact le_refl _, fun c hc => by omega⟩

/-- One more term, strictly below the minimum so far. -/
theorem IsFirst.step_lt {g : ℕ → α} {n i : ℕ} {m : α} (h : IsFirst g n i m) (hl : g n < m) :
    IsFirst g (n + 1) n (g n) :=
  ⟨by omega, rfl, fun c hc => by
    rcases Nat.lt_or_ge c n with h' | h'
    · exact hl.le.trans (h.le c h')
    · obtain rfl : c = n := by omega
      exact le_refl _, fun c hc => hl.trans_le (h.le c hc)⟩

/-- One more term, not below the minimum so far. -/
theorem IsFirst.step_ge {g : ℕ → α} {n i : ℕ} {m : α} (h : IsFirst g n i m) (hl : ¬ g n < m) :
    IsFirst g (n + 1) i m :=
  ⟨h.lt.trans (by omega), h.at_, fun c hc => by
    rcases Nat.lt_or_ge c n with h' | h'
    · exact h.le c h'
    · obtain rfl : c = n := by omega
      exact not_lt.1 hl, h.strict⟩

/-- `K` chunks of `L` terms: if lane `l`'s first least chunk is `J l` with value `V l`, the lane with the least value and,
    among those, the least position `J l * L + l`, is the first least place of the whole sequence. -/
theorem IsFirst.lanes {g : ℕ → α} {K L : ℕ} (J : ℕ → ℕ) (V : ℕ → α)
    (h : ∀ l, l < L → IsFirst (fun k => g (k * L + l)) K (J l) (V l)) (l₀ : ℕ) (hl₀ : l₀ < L)
    (hmin : ∀ l, l < L → V l₀ ≤ V l) (hfirst : ∀ l, l < L → V l = V l₀ → J l₀ * L + l₀ ≤ J l * L + l) :
    IsFirst g (K * L) (J l₀ * L + l₀) (V l₀) := by
  have hL : 0 < L := by omega
  have split : ∀ c, c < K * L → c % L < L ∧ c / L < K ∧ c / L * L + c % L = c := fun c hc =>
    ⟨Nat.mod_lt _ hL, (Nat.div_lt_iff_lt_mul hL).2 hc, by rw [Nat.mul_comm]; exact Nat.div_add_mod c L⟩
  have hle : ∀ c, c < K * L → V l₀ ≤ g c := fun c hc => by
    obtain ⟨h1, h2, h3⟩ := split c hc
    have := (h _ h1).le _ h2
    simp only [h3] at this
    exact (hmin _ h1).trans this
  have hlt : J l₀ * L + l₀ < K * L := by
    have := (h _ hl₀).lt
    calc J l₀ * L + l₀ < J l₀ * L + L := by omega
      _ = (J l₀ + 1) * L := by rw [Nat.add_mul, Nat.one_mul]
      _ ≤ K * L := Nat.mul_le_mul_right _ this
  refine ⟨hlt, (h _ hl₀).at_, hle, fun c hc => ?_⟩
  have hcK := hc.trans hlt
  obtain ⟨h1, h2, h3⟩ := split c hcK
  refine lt_of_le_of_ne (hle c hcK) fun e => ?_
  -- the lane of `c` then holds the least value, first at a chunk no later than `c`'s
  have hV : V (c % L) = V l₀ := by
    refine le_antisymm ?_ (hmin _ h1)
    have := (h _ h1).le _ h2
    simp only [h3] at this
    rw [e]; exact this
  have hJ : J (c % L) ≤ c / L := by
    by_contra hn
    have := (h _ h1).strict (c / L) (by omega)
    simp only [h3] at this
    rw [hV, e] at this; exact absurd this (lt_irrefl _)
  have h4 := hfirst _ h1 hV
  have h5 : J (c % L) * L ≤ c / L * L := Nat.mul_le_mul_right _ hJ
  omega

/-- Two halves, the second's least strictly below the first's. -/
theorem IsFirst.second {g : ℕ → α} {n n' i j : ℕ} {m m' : α} (h : IsFirst g n i m) (h' : IsFirst (fun c => g (n + c)) n' j m')
    (hl : m' < m) : IsFirst g (n + n') (n + j) m' :=
  ⟨by have := h'.lt; omega, h'.at_, fun c hc => by
    rcases Nat.lt_or_ge c n with h1 | h1
    · exact hl.le.trans (h.le c h1)
    · have := h'.le (c - n) (by omega)
      simpa only [Nat.add_sub_cancel' h1] using this, fun c hc => by
    rcases Nat.lt_or_ge c n with h1 | h1
    · exact hl.trans_le (h.le c h1)
    · have := h'.strict (c - n) (by omega)
      simpa only [Nat.add_sub_cancel' h1] using this⟩

/-- Two halves, the second's least not below the first's. -/
theorem IsFirst.first {g : ℕ → α} {n n' i j : ℕ} {m m' : α} (h : IsFirst g n i m) (h' : IsFirst (fun c => g (n + c)) n' j m')
    (hl : ¬ m' < m) : IsFirst g (n + n') i m :=
  ⟨by have := h.lt; omega, h.at_, fun c hc => by
    rcases Nat.lt_or_ge c n with h1 | h1
    · exact h.le c h1
    · have := h'.le (c - n) (by omega)
      simp only [Nat.add_sub_cancel' h1] at this
      exact (not_lt.1 hl).trans this, h.strict⟩

/-- Picking the lexicographically smaller of two pairs, the second components compared by a key, folded over a list: the result is the start or a member of the list,
    and no member, nor the start, is below it. -/
theorem foldl_lex {β γ : Type} [LinearOrder γ] (key : β → γ) {f : α × β → α × β → α × β}
    (hf : ∀ a b, f a b = if a.1 < b.1 ∨ (a.1 = b.1 ∧ key a.2 < key b.2) then a else b) (L : List (α × β)) (s : α × β) :
    (L.foldl f s = s ∨ L.foldl f s ∈ L) ∧
      ∀ p, p = s ∨ p ∈ L → (L.foldl f s).1 < p.1 ∨ ((L.foldl f s).1 = p.1 ∧ key (L.foldl f s).2 ≤ key p.2) := by
  induction L generalizing s with
  | nil => exact ⟨.inl rfl, fun p hp => by
      rcases hp with rfl | hp
      · exact .inr ⟨rfl, le_refl _⟩
      · cases hp⟩
  | cons a L ih =>
    obtain ⟨h1, h2⟩ := ih (f s a)
    rw [List.foldl_cons]
    have hs := hf s a
    have below : ∀ p, p = s ∨ p = a → (f s a).1 < p.1 ∨ ((f s a).1 = p.1 ∧ key (f s a).2 ≤ key p.2) := by
      rw [hs]
      rintro p (rfl | rfl)
      · split
        · exact .inr ⟨rfl, le_refl _⟩
        · rename_i hc
          simp only [not_or, not_and, not_lt] at hc
          rcases lt_or_eq_of_le hc.1 with h | h
          · exact .inl h
          · exact .inr ⟨h, hc.2 h.symm⟩
      · split
        · rename_i hc
          rcases hc with h | ⟨h, h'⟩
          · exact .inl h
          · exact .inr ⟨h, h'.le⟩
        · exact .inr ⟨rfl, le_refl _⟩
    constructor
    · rcases h1 with h | h
      · rw [h, hs]; split
        · exact .inl rfl
        · exact .inr (List.mem_cons_self ..)
      · exact .inr (List.mem_cons_of_mem _ h)
    · intro p hp
      have key : (p = s ∨ p = a) ∨ p ∈ L := by
        rcases hp with h | h
        · exact .inl (.inl h)
        · rcases List.mem_cons.1 h with h | h
          · exact .inl (.inr h)
          · exact .inr h
      rcases key with h | h
      · rcases h2 (f s a) (.inl rfl) with g | ⟨g, g'⟩ <;> rcases below p h with k | ⟨k, k'⟩
        · exact .inl (g.trans k)
        · exact .inl (k ▸ g)
        · exact .inl (g ▸ k)
        · exact .inr ⟨g.trans k, g'.trans k'⟩
      · exact h2 p (.inr h)

/-- Over the pairs of a row's values and their columns' words, started at a value no smaller and the word of zero, that fold
    ends at the word of the first least column. -/
theorem foldl_first {n : ℕ} (hn : 0 < n) [OrderTop α] (g : ℕ → α) {β : Type} (key : β → ℤ) (w : ℕ → β)
    (hw : ∀ c, c < n → key (w c) = c) {f : α × β → α × β → α × β}
    (hf : ∀ a b, f a b = if a.1 < b.1 ∨ (a.1 = b.1 ∧ key a.2 < key b.2) then a else b)
    (L : List (α × β)) (hL : ∀ p, p ∈ L ↔ ∃ c, c < n ∧ p = (g c, w c)) :
    ∃ i M, (L.foldl f (⊤, w 0)).2 = w i ∧ IsFirst g n i M := by
  obtain ⟨h1, h2⟩ := foldl_lex key hf L (⊤, w 0)
  generalize L.foldl f (⊤, w 0) = r at h1 h2 ⊢
  have hq : ∀ c, c < n → r.1 < g c ∨ (r.1 = g c ∧ key r.2 ≤ c) := fun c hc => by
    have := h2 _ (.inr ((hL _).2 ⟨c, hc, rfl⟩))
    rwa [hw c hc] at this
  have hle : ∀ c, c < n → r.1 ≤ g c := fun c hc => (hq c hc).elim le_of_lt fun h => le_of_eq h.1
  obtain ⟨i, hi, hr⟩ : ∃ i, i < n ∧ r = (g i, w i) := by
    rcases h1 with h | h
    · have h0 := hle 0 hn
      rw [h] at h0
      exact ⟨0, hn, by rw [h, ← top_le_iff.1 h0]⟩
    · exact (hL _).1 h
  refine ⟨i, r.1, by rw [hr], hi, by rw [hr], hle, fun c h => ?_⟩
  rcases hq c (h.trans hi) with g' | ⟨_, g'⟩
  · exact g'
  · rw [hr, hw i hi] at g'
    omega

end Cert.Proof.First
-- ==== Proof.Distance.lean ====
/-
  The distances of the codebook problem over the extended reals: from row `n` of the data to row `q` of the codebook, the
  root of the clipped value of |x|² + |w|² − 2 x·w.
-/
module

public import proofs.«01_k».proof.Proof.First
public import Idealize.ShloMosaic.Lib.Pointwise

@[expose] public section

noncomputable section

namespace Cert.Proof.Distance

open Idealize.ShloMosaic
open scoped BigOperators

abbrev Data := Fin 16384 → Fin 32 → EReal
abbrev Book := Fin 8192 → Fin 32 → EReal

/-- The squared distance before clipping. -/
def sq (x : Data) (w : Book) (n : Fin 16384) (q : Fin 8192) : EReal :=
  ((∑ k, x n k * x n k) + ∑ k, w q k * w q k) - 2 * ∑ k, x n k * w q k

/-- The distance. -/
def far (x : Data) (w : Book) (n : Fin 16384) (q : Fin 8192) : EReal := Ideal.sqrt (max (sq x w n q) 0)

/-- A row's distances as a sequence, repeating after the codebook's 8192 rows. -/
def farSeq (x : Data) (w : Book) (n : Fin 16384) (c : ℕ) : EReal := far x w n ⟨c % 8192, Nat.mod_lt _ (by decide)⟩

theorem two_ne_top : (2 : EReal) ≠ ⊤ := EReal.coe_ne_top 2

/-- Doubling one factor doubles the product sum. -/
theorem two_mul_dot {K : ℕ} (a b : Fin K → EReal) : ∑ k, a k * (2 * b k) = 2 * ∑ k, a k * b k := by
  have key : ∀ s : Finset (Fin K), ∑ k ∈ s, a k * (2 * b k) = 2 * ∑ k ∈ s, a k * b k := fun s => by
    induction s using Finset.induction_on with
    | empty => simp
    | insert i s hi ih =>
      rw [Finset.sum_insert hi, Finset.sum_insert hi, ih, EReal.left_distrib_of_nonneg_of_ne_top (by norm_num) two_ne_top, mul_left_comm]
  exact key Finset.univ

/-- The pattern of 2.0. -/
theorem two_word : (Ideal.ofBits .f32 0x40000000#32 : EReal) = 2 := by
  simp [Ideal.ofBits, Ideal.ieee]
  rw [← EReal.coe_mul]
  have : (8388608 : ℝ) * (2 ^ 22)⁻¹ = 2 := by norm_num
  rw [this]
  rfl

end Cert.Proof.Distance
-- ==== Proof.Kernel.Tile.lean ====
/-
  One task of the row gather on a vector subcore. Task `(c, s)` fetches the 512 indices of its block, streams the rows of
  the padded table they name into its row scratch, and writes the rows to its block of the result. The module states the
  rows the whole call leaves (`gathered`) and shows that one task leaves its block at them, provided that every index of
  its block names a row of the table.
-/
module

public import proofs.«01_k».proof.Defs
public import proofs.«01_k».proof.Proof.Host
public import Idealize.ShloMosaic.Lib.Tactic
public import proofs.«01_k».proof.Proof.Gen.KernelIdeal
public import proofs.«01_k».proof.Proof.Gen.KernelIdeal.Skeleton

@[expose] public section

noncomputable section

namespace Cert.Proof.Kernel

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch on the program's own tables. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the pipeline's rounds and the transfers' counters. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn upEmb := by
  unfold EP embR; infer_instance

/-! ## The three operands and the two scratch buffers -/

abbrev iRef : Ref sig .tc := main_v10
abbrev xRef : Ref sig .tc := main_v12
abbrev oRef : Ref sig .tc := main_v13
abbrev iLoc (d : Dev nD) : Loc nD τ sig := (SparseCore.T d).loc iRef
abbrev xLoc (d : Dev nD) : Loc nD τ sig := (SparseCore.T d).loc xRef
abbrev oLoc (d : Dev nD) : Loc nD τ sig := (SparseCore.T d).loc oRef

abbrev iV : Memref sig .scVector .hbm S16384 .i32 := Memref.whole main_v10_scv
abbrev xV : Memref sig .scVector .hbm S8192x128 .f32 := Memref.whole main_v12_scv
abbrev oV : Memref sig .scVector .hbm S16384x128 .f32 := Memref.whole main_v13_scv
abbrev sV : Memref sig .scVector .vmem S512 .i32 := Memref.whole cc1_scratch0
abbrev rV : Memref sig .scVector .vmem S512x128 .f32 := Memref.whole cc1_scratch1

abbrev Coords : Type := grid1.Coords
abbrev cV (L : Coords) : Fin τ.nSC := (L 0).castLE hcore1
abbrev jV (L : Coords) : Fin τ.nSub := (L 1).castLE hsub1

abbrev iRowK (L : Coords) : Memref sig .scVector .hbm S512 .i32 :=
  (iV).slice (Rect.unit (s := S16384) (k1_off1 L) S512.size (k1_off1_inb L)) (fun _ => rfl)
abbrev oRowK (L : Coords) : Memref sig .scVector .hbm S512x128 .f32 :=
  (oV).slice (Rect.unit (s := S16384x128) (k1_off2 L) S512x128.size (k1_off2_inb L)) (fun _ => rfl)
abbrev xAllK : Memref sig .scVector .hbm S8192x128 .f32 :=
  (xV).slice (Rect.unit (s := S8192x128) ![0, 0] S8192x128.size inb_S8192x128_S8192x128_0_0) (fun _ => rfl)

/-- A task's block of the indices and of the result, as sets of positions. -/
abbrev iSet (L : Coords) : Finset S16384.Idx := (iRowK L).view.set
abbrev oSet (L : Coords) : Finset S16384x128.Idx := (oRowK L).view.set

/-- Position `j` of the indices lies in task `(c, s)`'s block exactly if its block number is `2 s + c`. -/
theorem mem_iSet (L : Coords) (j : S16384.Idx) : j ∈ iSet L ↔ (j 0).val / 512 = 2 * (L 1).val + (L 0).val := by
  unfold iSet
  rw [show (iRowK L).view.set = (Rect.unit (s := S16384) (k1_off1 L) S512.size (k1_off1_inb L)).set from by
    show ((View.whole (main_v10_scv : Ref sig .scVector)).slice _).set = _
    rw [View.set_slice]; exact Finset.map_refl]
  rw [Rect.mem_set_unit]
  simp only [k1_off1_eq]
  constructor
  · intro h
    have h0 := h 0
    simp only [Matrix.cons_val_zero, show S512.size 0 = 512 from rfl] at h0
    omega
  · intro h a
    match a with
    | 0 =>
      simp only [Matrix.cons_val_zero, show S512.size 0 = 512 from rfl]
      omega

/-- The same of the result's rows. -/
theorem mem_oSet (L : Coords) (j : S16384x128.Idx) : j ∈ oSet L ↔ (j 0).val / 512 = 2 * (L 1).val + (L 0).val := by
  unfold oSet
  rw [show (oRowK L).view.set = (Rect.unit (s := S16384x128) (k1_off2 L) S512x128.size (k1_off2_inb L)).set from by
    show ((View.whole (main_v13_scv : Ref sig .scVector)).slice _).set = _
    rw [View.set_slice]; exact Finset.map_refl]
  rw [Rect.mem_set_unit]
  simp only [k1_off2_eq]
  constructor
  · intro h
    have h0 := h 0
    simp only [Matrix.cons_val_zero, show S512x128.size 0 = 512 from rfl] at h0
    omega
  · intro h a
    match a with
    | 0 =>
      simp only [Matrix.cons_val_zero, show S512x128.size 0 = 512 from rfl]
      omega
    | 1 =>
      have := (j 1).isLt
      simp only [Matrix.cons_val_one, Matrix.cons_val_zero, show S512x128.size 1 = 128 from rfl, show S16384x128.size 1 = 128 from rfl] at this ⊢
      omega

/-- A place of the padded table. -/
def at2 (r : Fin 8192) (k : Fin 128) : S8192x128.Idx := fun a => match a with
  | ⟨0, _⟩ => r
  | ⟨1, _⟩ => k

/-- A position of the indices. -/
def at1 (r : Fin 16384) : S16384.Idx := fun a => match a with
  | ⟨0, _⟩ => r

/-- What the call leaves in the result: row `r` is the row of the table that index `r` names. -/
def gathered (tab : S8192x128.Idx → Elt F .f32) (ix : S16384.Idx → BitVec 32) : S16384x128.Idx → Elt F .f32 :=
  fun j => tab (at2 ⟨(ix (at1 (j 0))).toNat % 8192, Nat.mod_lt _ (by decide)⟩ (j 1))

variable [FloatOps F]

section Tile

variable (tab : S8192x128.Idx → Elt F .f32) (ix : S16384.Idx → BitVec 32) (o₀ : S16384x128.Idx → Elt F .f32)

/-- Every index names a row of the table. -/
def InRange : Prop := ∀ j : S16384.Idx, (ix j).toNat < 8192

/-- Task `(c, s)`'s number among the 32. -/
def taskNo (L : Coords) : Fin 32 :=
  ⟨2 * (L 1).val + (L 0).val, by
    have h0 : (L 0).val < 2 := (L 0).isLt
    have h1 : (L 1).val < 16 := (L 1).isLt
    omega⟩

/-- Its share of the table: one thirty-second. -/
abbrev xq (L : Coords) : PosShare TreeShare := pieceOf fullShare 32 (by decide) (taskNo L)

abbrev iPts (d : Dev nD) : sProp 𝕄 := iLoc d ↦{fullShare} ix
abbrev xPts (d : Dev nD) : sProp 𝕄 := xLoc d ↦{fullShare} tab
abbrev oPts (d : Dev nD) (f : S16384x128.Idx → Elt F .f32) : sProp 𝕄 := oLoc d ↦{fullShare} f
abbrev iRowPts (d : Dev nD) (L : Coords) : sProp 𝕄 := iLoc d ↦[iSet L]{fullShare} ix
abbrev xShPts (d : Dev nD) (L : Coords) : sProp 𝕄 := xLoc d ↦{xq L} tab
abbrev oRowPts (d : Dev nD) (L : Coords) (f : S16384x128.Idx → Elt F .f32) : sProp 𝕄 := oLoc d ↦[oSet L]{fullShare} f

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

variable (d : Dev nD) (L : Coords)

/-- The three semaphores a task uses, out of its own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  have hs : ∀ sm : SemLoc sig, sm.isScoped .scVector = true → ((V d (cV L) (jV L), sm) : GSem nD τ sig) ∈ ownCells (V d (cV L) (jV L)) :=
    fun sm h => mem_ownCells.mpr ⟨rfl, h⟩
  have hne : ∀ {a b : DmaSem sig}, a ≠ b → ((V d (cV L) (jV L), SemLoc.dma a) : GSem nD τ sig) ≠ (V d (cV L) (jV L), SemLoc.dma b) :=
    fun h e => h (SemLoc.dma.inj (Prod.mk.inj e).2)
  unfold SparseCore.Cfg.ownSems0
  rw [SparseCore.bigSep_erase' (hs (.dma cc1_scratch2.sem) (by decide)),
    SparseCore.bigSep_erase' (Finset.mem_erase.mpr ⟨hne (by decide), hs (.dma cc1_scoped0.sem) (by decide)⟩),
    SparseCore.bigSep_erase' (Finset.mem_erase.mpr ⟨hne (by decide), Finset.mem_erase.mpr ⟨hne (by decide), hs (.dma cc1_scoped1.sem) (by decide)⟩⟩)]

/-- The two scratch buffers, out of its own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  have hm : ∀ r : Ref sig .scVector, ((Proc.scVector (cV L) (jV L)).devRef r).owner = ((Proc.scVector (cV L) (jV L)).devRef cc1_scratch0).owner →
      (Proc.scVector (cV L) (jV L)).devRef r ∈ ownRefs (τ := τ) (.scVector (cV L) (jV L)) :=
    fun r h => SparseCore.Cfg.mem_ownRefs_of_owner (p := Proc.scVector (cV L) (jV L)) (h.trans rfl)
  unfold SparseCore.Cfg.ownBufs
  refine (SparseCore.bigSep_erase' (hm cc1_scratch0 rfl)).trans ?_
  rw [SparseCore.bigSep_erase' (Finset.mem_erase.mpr ⟨fun e => absurd (Proc.devRef_injective _ e) (show (cc1_scratch1 : Ref sig .scVector) ≠ cc1_scratch0 by decide), hm cc1_scratch1 rfl⟩)]

/-- Index `j` of the block a task fetches is the whole list's at the block's offset. -/
theorem read_iRowK (j : S512.Idx) : (iRowK L).view.read (Elt F) ix j = ix ((iRowK L).view.emb j) :=
  (View.read_apply _ _).trans (cast_eq _ _)

/-- Contents written to the whole of a scratch buffer and read back. -/
theorem read_sV (fs pay : S512.Idx → BitVec 32) :
    View.read (Elt F) (sV).view (View.write (Elt F) (sV).view fs pay Finset.univ) = pay :=
  View.write_whole_univ (Val := Elt F) cc1_scratch0 fs pay
theorem read_rV (fr pay : S512x128.Idx → Elt F .f32) :
    View.read (Elt F) (rV).view (View.write (Elt F) (rV).view fr pay Finset.univ) = pay :=
  View.write_whole_univ (Val := Elt F) cc1_scratch1 fr pay

/-- The block a task writes, written with the rows its stream landed, is the gathered result there. -/
theorem oRow_eq (hin : InRange ix) (fo : S16384x128.Idx → Elt F .f32) (pay : S512x128.Idx → Elt F .f32) (w : S512.Idx → BitVec 32)
    (hi : ∀ x, (w x).toNat < S8192x128.size gathers_S8192x128_S512x128.axis) (hw : w = View.read (Elt F) (iRowK L).view ix)
    (hpay : pay = SparseCore.gatherPayload gathers_S8192x128_S512x128 (View.read (Elt F) (xAllK).view tab) (SparseCore.rows (F := F) w rfl hi)) :
    ∀ j ∈ oSet L, (oRowK L).view.writes (Elt F) fo [⟨Rect.whole S512x128, pay⟩] j = gathered tab ix j := by
  rw [← View.write_univ_eq_writes_whole (oRowK L).view fo [] pay]
  intro j hj
  obtain ⟨y, -, rfl⟩ := Finset.mem_map.mp hj
  rw [View.write_emb_of_mem _ _ (Finset.mem_univ y), cast_eq, hpay]
  unfold SparseCore.gatherPayload gathered
  rw [View.read_apply, cast_eq]
  congr 1
  funext a
  apply Fin.ext
  have hrow : ((oRowK L).view.emb y 0).val = k1_off2 L 0 + (y 0).val := by
    show (k1_off2 L 0 + 1 * (y 0).val) = _
    omega
  have hcol : ((oRowK L).view.emb y 1).val = (y 1).val := by
    show (k1_off2 L 1 + 1 * (y 1).val) = _
    rw [k1_off2_eq]; simp
  match a with
  | ⟨0, _⟩ =>
    have e1 : ((xAllK).view.emb (Shape.Gathers.idx gathers_S8192x128_S512x128 (SparseCore.rows (F := F) w rfl hi) y) ⟨0, by decide⟩).val
        = ((Shape.Gathers.idx gathers_S8192x128_S512x128 (SparseCore.rows (F := F) w rfl hi) y)
            (Shape.Gathers.axis gathers_S8192x128_S512x128)).val := by
      show (0 + 1 * _) = _
      rw [Nat.one_mul, Nat.zero_add]
    refine e1.trans ?_
    rw [Shape.Gathers.idx_axis]
    show (w _).toNat = (ix (at1 ((oRowK L).view.emb y 0))).toNat % 8192
    rw [Nat.mod_eq_of_lt (hin _), hw, read_iRowK]
    congr 2
    funext b
    match b with
    | ⟨0, _⟩ =>
      apply Fin.ext
      show _ = ((oRowK L).view.emb y 0).val
      refine Eq.trans ?_ hrow.symm
      show k1_off1 L 0 + 1 * ((S512.rowMajor.symm _) 0).val = _
      rw [k1_off1_eq, k1_off2_eq]
      have hr := Shape.rowMajor_val_one (S512.rowMajor.symm ((y (Shape.Gathers.axis' gathers_S8192x128_S512x128)).cast rfl))
      rw [Equiv.apply_symm_apply] at hr
      simp only [Matrix.cons_val_zero, one_mul]
      exact congrArg (1024 * (L 1).val + 512 * (L 0).val + ·) hr.symm
  | ⟨1, _⟩ =>
    refine Eq.trans ?_ hcol.symm
    show (0 + 1 * _) = _
    rw [Shape.Gathers.idx_of_ne gathers_S8192x128_S512x128 _ y ⟨1, by decide⟩ (by decide), Nat.one_mul, Nat.zero_add]
    rfl

/-- What the index fetch lands names rows of the table. -/
theorem inb_rows (hin : InRange ix) (fs pay : S512.Idx → BitVec 32) (hpay : pay = (iRowK L).view.read (Elt F) ix) :
    ∀ x, ((sV).view.read (Elt F) (View.write (Elt F) (sV).view fs pay Finset.univ) x).toNat < S8192x128.size gathers_S8192x128_S512x128.axis := by
  subst hpay; intro x
  rw [read_sV, read_iRowK]
  exact hin _

set_option maxHeartbeats 4000000 in
/-- A task, from its block of the indices, its share of the table and its block of the result, hands them back with the
    block of the result at the gathered rows. -/
theorem tile_body (hF : (K (F := F)).Facts) (hin : InRange ix) (O : CellTallies nD τ sig (HIx 1)) (W : Waits sig (HIx 1)) (hO : ∀ g, O g none = 0) :
    iprop(levAts (K (F := F)).L (K (F := F)).lev ∗ emp
        ∗ (iRowPts ix d L ∗ xShPts tab d L ∗ oRowPts d L o₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L xV (Memref.isWhole_whole _) iV (Memref.isWhole_whole _) oV (Memref.isWhole_whole _)
            sV (Memref.isWhole_whole _) rV (Memref.isWhole_whole _) cc1_scratch2 cc1_scoped0 cc1_scoped1)
          fun _ => iprop((iRowPts ix d L ∗ xShPts tab d L ∗ oRowPts d L (gathered tab ix))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi := (Entails.of_eq (show (iRowPts ix d L : sProp 𝕄) = (iRowK L).view.loc (V d (cV L) (jV L)) ↦[(iRowK L).view.set]{fullShare} ix from rfl)) $$ Hi
  ihave Ho := (Entails.of_eq (show (oRowPts d L o₀ : sProp 𝕄) = (oRowK L).view.loc (V d (cV L) (jV L)) ↦[(oRowK L).view.set]{fullShare} o₀ from rfl)) $$ Ho
  ihave Hx := (Entails.of_eq (show (xShPts tab d L : sProp 𝕄) = (xV).view.loc (V d (cV L) (jV L)) ↦{xq L} tab from rfl)) $$ Hx
  ihave Hs := (Entails.of_eq (show ((V d (cV L) (jV L)).loc cc1_scratch0 ↦{fullShare} fs : sProp 𝕄) = (sV).view.loc (V d (cV L) (jV L)) ↦{fullShare} fs from rfl)) $$ Hs
  ihave Hr := (Entails.of_eq (show ((V d (cV L) (jV L)).loc cc1_scratch1 ↦{fullShare} fr : sProp 𝕄) = (rV).view.loc (V d (cV L) (jV L)) ↦{fullShare} fr from rfl)) $$ Hr
  sl_exec
  have hsp : ((xV).view.loc (V d (cV L) (jV L)) ↦{xq L} tab : sProp 𝕄)
      ⊣⊢ iprop(((xAllK).view.loc (V d (cV L) (jV L)) ↦[(xAllK).view.set]{xq L} tab)
        ∗ (xV).view.loc (V d (cV L) (jV L)) ↦[Finset.univ \ (xAllK).view.set]{xq L} tab) :=
    pointsTo_split_subset (Finset.subset_univ (xAllK).view.set)
  ihave Hxs := hsp.1 $$ Hx
  icases Hxs with ⟨Hxs, Hxr⟩
  have hrs : (rV).view.set = Finset.univ := View.set_whole _
  have hss : (sV).view.set = Finset.univ := View.set_whole _
  ihave Hr := (Entails.of_eq (show ((rV).view.loc (V d (cV L) (jV L)) ↦{fullShare} fr : sProp 𝕄)
      = (rV).view.loc (V d (cV L) (jV L)) ↦[(rV).view.set]{fullShare} fr by rw [hrs])) $$ Hr
  ihave Hs := (Entails.of_eq (show ((sV).view.loc (V d (cV L) (jV L)) ↦{fullShare} View.write (Elt F) (sV).view fs (tile_body.sl.dma0 ix L) Finset.univ : sProp 𝕄)
      = (sV).view.loc (V d (cV L) (jV L)) ↦[(sV).view.set]{fullShare} View.write (Elt F) (sV).view fs (tile_body.sl.dma0 ix L) Finset.univ
      by rw [hss])) $$ Hs
  have hN : ∀ h : S8192x128.Gathers 0 S512x128, ∑ j, ((rV).slice (S512x128.rowRect h.axis' j) (S512x128.stride_rowRect h.axis' j)).view.dmaCredit
      = (rV).view.dmaCredit := by decide
  have hpay : tile_body.sl.dma0 ix L = View.read (Elt F) (iRowK L).view ix := rfl
  iapply (SparseCore.wp_indirectGatherLocal countersEmb 𝒱₀ (V d (cV L) (jV L)) none (hg := gathers_S8192x128_S512x128) (default : HIx 1)
      (rV).view.dmaCredit (hN _) (by decide) (inb_rows ix L hin fs _ hpay)) $$ [Hxs Hr Hs HsemA]
  · isplitl [Hxs]; · iexact Hxs
    isplitl [Hr]; · iexact Hr
    isplitl [Hs]; · iexact Hs
    iexact HsemA
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr, Hxs, Hs⟩, HsemA, HO⟩
  ihave Hx := hsp.2 $$ [Hxs Hxr]
  · isplitl [Hxs] <;> iassumption
  ihave Hr := (Entails.of_eq (show ((rV).view.loc (V d (cV L) (jV L)) ↦[(rV).view.set]{fullShare} _ : sProp 𝕄)
      = (rV).view.loc (V d (cV L) (jV L)) ↦{fullShare} _ by rw [hrs])) $$ Hr
  ihave Hs := (Entails.of_eq (show ((sV).view.loc (V d (cV L) (jV L)) ↦[(sV).view.set]{fullShare} _ : sProp 𝕄)
      = (sV).view.loc (V d (cV L) (jV L)) ↦{fullShare} _ by rw [hss])) $$ Hs
  sl_exec
  sl_step
  isplitl [Hi Hx Ho]
  · isplitl [Hi]; · iexact Hi
    isplitl [Hx]; · iexact Hx
    have hp1 : tile_body.sl.dma0_1 tab ix d L hin fs fr hpay = SparseCore.gatherPayload gathers_S8192x128_S512x128 (View.read (Elt F) (xAllK).view tab)
        (SparseCore.rows (F := F) (View.read (Elt F) (sV).view (View.write (Elt F) (sV).view fs (tile_body.sl.dma0 ix L) Finset.univ)) rfl
          (inb_rows ix L hin fs _ hpay)) := by
      unfold tile_body.sl.dma0_1
      exact read_rV (F := F) fr _
    have hw := oRow_eq tab ix L hin o₀ (tile_body.sl.dma0_1 tab ix d L hin fs fr hpay)
      (View.read (Elt F) (sV).view (View.write (Elt F) (sV).view fs (tile_body.sl.dma0 ix L) Finset.univ)) (inb_rows ix L hin fs _ hpay)
      (read_sV (F := F) fs _) hp1
    iapply (Entails.of_eq (pointsTo_congr hw)) $$ Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Kernel

end
-- ==== Proof.Kernel.Body.lean ====
/-
  One grid point of the distance kernel on the TensorCore: from the point's four input blocks the body leaves the block of
  indices, adds the block's sum to the accumulator in scalar memory (which it clears at the first point), and at the last
  point writes the accumulator out. The values it leaves are named here over the skeleton's payloads.
-/
module

public import proofs.«01_k».proof.Proof.Kernel.Tile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.VecWindow
public import Idealize.ShloMosaic.Lib.WordCmp

@[expose] public section

set_option maxRecDepth 16384

noncomputable section

namespace Cert.Proof.Kernel

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What a point computes -/

/-- A point's distances. -/
def dist (x0 : Vec F S512x32 .f32) (x1 : Vec F S32x8192 .f32) (x2 : Vec F S512x1 .f32) (x3 : Vec F S1x8192 .f32) : FVec F S512x8192 .f32 := k0_pay2 x0 x1 x2 x3

/-- The running minima and the running chunk numbers over the first half's chunks, at the cuts of the body's parts. -/
def lowV (x0 : Vec F S512x32 .f32) (x1 : Vec F S32x8192 .f32) (x2 : Vec F S512x1 .f32) (x3 : Vec F S1x8192 .f32) : FVec F S512x128 .f32 :=
  k0_pay56 (dist x0 x1 x2 x3) (k0_pay35 (dist x0 x1 x2 x3) (k0_pay14 x0 x1 x2 x3) (k0_pay15 x0 x1 x2 x3)) (k0_pay36 (dist x0 x1 x2 x3))
def lowJ (x0 : Vec F S512x32 .f32) (x1 : Vec F S32x8192 .f32) (x2 : Vec F S512x1 .f32) (x3 : Vec F S1x8192 .f32) : IVec S512x128 32 :=
  k0_pay55 (dist x0 x1 x2 x3) (k0_pay34 (dist x0 x1 x2 x3) (k0_pay13 x0 x1 x2 x3) (k0_pay14 x0 x1 x2 x3) (k0_pay15 x0 x1 x2 x3))
    (k0_pay35 (dist x0 x1 x2 x3) (k0_pay14 x0 x1 x2 x3) (k0_pay15 x0 x1 x2 x3)) (k0_pay36 (dist x0 x1 x2 x3))

/-- The first half's least distance and the column it is first at. -/
def lowM (x0 : Vec F S512x32 .f32) (x1 : Vec F S32x8192 .f32) (x2 : Vec F S512x1 .f32) (x3 : Vec F S1x8192 .f32) : FVec F S512 .f32 :=
  k0_pay71 (dist x0 x1 x2 x3) (lowV x0 x1 x2 x3) (k0_pay57 (dist x0 x1 x2 x3))
def lowI (x0 : Vec F S512x32 .f32) (x1 : Vec F S32x8192 .f32) (x2 : Vec F S512x1 .f32) (x3 : Vec F S1x8192 .f32) : IVec S512 32 :=
  k0_pay70 (dist x0 x1 x2 x3) (lowJ x0 x1 x2 x3) (lowV x0 x1 x2 x3) (k0_pay57 (dist x0 x1 x2 x3))

/-- The running minima and chunk numbers over the second half's chunks. -/
def highV (d : FVec F S512x8192 .f32) : FVec F S512x128 .f32 := k0_pay138 d (k0_pay117 d (k0_pay96 d (k0_pay75 d)))
def highJ (d : FVec F S512x8192 .f32) : IVec S512x128 32 :=
  k0_pay137 d (k0_pay116 d (k0_pay95 d (k0_pay74 d) (k0_pay75 d)) (k0_pay96 d (k0_pay75 d))) (k0_pay117 d (k0_pay96 d (k0_pay75 d)))

/-- The block of indices a point leaves, and the accumulator after it. -/
def outI (x0 : Vec F S512x32 .f32) (x1 : Vec F S32x8192 .f32) (x2 : Vec F S512x1 .f32) (x3 : Vec F S1x8192 .f32) : Vec F S1x1x512 .i32 :=
  k0_pay142 (lowI x0 x1 x2 x3) (lowM x0 x1 x2 x3) (highJ (dist x0 x1 x2 x3)) (highV (dist x0 x1 x2 x3))
def outA (x0 : Vec F S512x32 .f32) (x1 : Vec F S32x8192 .f32) (x2 : Vec F S512x1 .f32) (x3 : Vec F S1x8192 .f32) (a : Elt F .f32) : F .f32 :=
  k0_pay143 (lowM x0 x1 x2 x3) (highV (dist x0 x1 x2 x3)) a

/-! ## The body's branch conditions -/

/-- The body's first condition: the point is the first. -/
abbrev atFirst (i : grid0.Coords) : Prop := (Scalar.cmpi .ne (Scalar.extui (Scalar.cmpi .eq (BitVec.ofNat 32 (i 0).val) 0#32)) 0#32) = 1#1
/-- Its second: the point is the last. -/
abbrev atLast (i : grid0.Coords) : Prop := k0_cond2 i = 1#1

theorem coord0 (t : Fin grid0.N) : (grid0.coords t 0).val = t.val := by
  have e0 : (grid0.coords t 0).val = t.val / 1 % 32 := Pipeline.Grid.coords_val t 0 (by decide) rfl
  have h : t.val < 32 := t.isLt.trans_eq N_0
  omega

theorem atFirst_iff (t : Fin grid0.N) : atFirst (grid0.coords t) ↔ t.val = 0 := by
  have hN : t.val < 32 := t.isLt.trans_eq N_0
  simp only [atFirst, coord0]; word_cmp
theorem atLast_iff (t : Fin grid0.N) : atLast (grid0.coords t) ↔ t.val = 31 := by
  have hN : t.val < 32 := t.isLt.trans_eq N_0
  simp only [atLast, k0_cond2, coord0]; word_cmp

/-- No point is the first and the last. -/
theorem cases_of (i : grid0.Coords) : atFirst i ∧ ¬ atLast i ∨ ¬ atFirst i ∧ ¬ atLast i ∨ ¬ atFirst i ∧ atLast i := by
  have hi := (i 0).isLt
  have h : atFirst i → (i 0).val = 0 := by
    have : (i 0).val < 32 := hi
    simp only [atFirst]; generalize (i 0).val = n at *; word_cmp
  have h' : atLast i → (i 0).val = 31 := by
    have : (i 0).val < 32 := hi
    simp only [atLast, k0_cond2]; generalize (i 0).val = n at *; word_cmp
  by_cases a : atFirst i <;> by_cases b : atLast i
  · have := h a; have := h' b; omega
  · exact .inl ⟨a, b⟩
  · exact .inr (.inr ⟨a, b⟩)
  · exact .inr (.inl ⟨a, b⟩)

/-- The accumulator's value a point adds to: zero at the first point, what the point before left at the others. -/
def accIn (i : grid0.Coords) (a : Elt F .f32) : Elt F .f32 := open Classical in if atFirst i then Scalar.ofBits .f32 0x00000000#32 else a

/-- What the point leaves in the loss window: untouched but at the last point, which writes the accumulator out. -/
def outL (i : grid0.Coords) (a : Elt F .f32) (d5 : Vec F S1x1 .f32) : Vec F S1x1 .f32 := open Classical in if atLast i then k0_pay1 a else d5

theorem accIn_pos {i : grid0.Coords} (h : atFirst i) (a : Elt F .f32) : accIn i a = Scalar.ofBits .f32 0x00000000#32 := if_pos h
theorem accIn_neg {i : grid0.Coords} (h : ¬ atFirst i) (a : Elt F .f32) : accIn i a = a := if_neg h
theorem outL_pos {i : grid0.Coords} (h : atLast i) (a : Elt F .f32) (d5 : Vec F S1x1 .f32) : outL i a d5 = k0_pay1 a := if_pos h
theorem outL_neg {i : grid0.Coords} (h : ¬ atLast i) (a : Elt F .f32) (d5 : Vec F S1x1 .f32) : outL i a d5 = d5 := if_neg h

set_option maxHeartbeats 4000000 in
/-- The body at a point: the input blocks come back as they were, the index block is `outI`, the accumulator moves by `outA`, and the loss window is `outL`. -/
theorem body_run (c : Dev nD) (i : grid0.Coords) (arg1 : Memref sig .tc .vmem S512x32 .f32) (harg1 : arg1.IsWhole) (arg2 : Memref sig .tc .vmem S32x8192 .f32) (harg2 : arg2.IsWhole) (arg3 : Memref sig .tc .vmem S512x1 .f32) (harg3 : arg3.IsWhole) (arg4 : Memref sig .tc .vmem S1x8192 .f32) (harg4 : arg4.IsWhole) (arg5 : Memref sig .tc .vmem S1x1x512 .i32) (harg5 : arg5.IsWhole) (arg6 : Memref sig .tc .vmem S1x1 .f32) (harg6 : arg6.IsWhole) (arg7 : Memref sig .tc .smem S1 .f32) (harg7 : arg7.IsWhole)
    (x0 : Vec F S512x32 .f32) (x1 : Vec F S32x8192 .f32) (x2 : Vec F S512x1 .f32) (x3 : Vec F S1x8192 .f32) (d4 : Vec F S1x1x512 .i32) (d5 : Vec F S1x1 .f32) (a : Elt F .f32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare d4 ∗ owns (c : Thread nD τ) arg6 fullShare d5 ∗ owns (c : Thread nD τ) arg7 fullShare (fun _ => a)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (outI x0 x1 x2 x3) ∗ owns (c : Thread nD τ) arg6 fullShare (outL i (outA x0 x1 x2 x3 (accIn i a)) d5)
            ∗ owns (c : Thread nD τ) arg7 fullShare (fun _ => outA x0 x1 x2 x3 (accIn i a))) -∗ Q ⟨⟩))
      ⊢ wp frame (wpE (defs₀ (F := F)) Variants.none c none) E (cc0__argmin_body i arg1 harg1 arg2 harg2 arg3 harg3 arg4 harg4 arg5 harg5 arg6 harg6 arg7 harg7) Q := by
  simp only [cc0__argmin_body_eq_skeleton]; unfold cc0__argmin_body_skel
  simp only [k0_part8_eq_skeleton, k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2; obtain rfl := harg4.eq_unread hf3
  obtain rfl := harg7.eq_unread hfs
  have l1 : View.readAt (Elt F) arg1.view (Rect.unit ![0, 0] S512x32.size inb_S512x32_S512x32_0_0).toLoadRect (harg1.unread x0) = x0 := by
    rw [View.readAt_full, harg1.read_unread]
  have l2 : View.readAt (Elt F) arg2.view (Rect.unit ![0, 0] S32x8192.size inb_S32x8192_S32x8192_0_0).toLoadRect (harg2.unread x1) = x1 := by
    rw [View.readAt_full, harg2.read_unread]
  have l3 : View.readAt (Elt F) arg3.view (Rect.unit ![0, 0] S512x1.size inb_S512x1_S512x1_0_0).toLoadRect (harg3.unread x2) = x2 := by
    rw [View.readAt_full, harg3.read_unread]
  have l4 : View.readAt (Elt F) arg4.view (Rect.unit ![0, 0] S1x8192.size inb_S1x8192_S1x8192_0_0).toLoadRect (harg4.unread x3) = x3 := by
    rw [View.readAt_full, harg4.read_unread]
  have l7 : View.readAt (Elt F) arg7.view (Rect.unit ![0] S1.size inb_S1_S1_0).toLoadRect (harg7.unread fun _ => a) = fun _ => a := by
    rw [View.readAt_full, harg7.read_unread]; rfl
  rcases cases_of i with ⟨hc0, hc1⟩ | ⟨hc0, hc1⟩ | ⟨hc0, hc1⟩
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap; · iexact H4
      ipureintro
      rw [View.read_writes_full]; rfl
    isplitl [H5]
    · iexists _; isplitr
      swap; · iexact H5
      ipureintro
      first | rw [accIn_pos hc0] | rw [accIn_neg hc0]
      first | rw [outL_pos hc1] | rw [outL_neg hc1]
      first | exact hf5 | (rw [View.read_writes_full]; rfl)
    iexists _; isplitr
    swap; · iexact HS
    ipureintro
    first | rw [accIn_pos hc0] | rw [accIn_neg hc0]
    rw [View.read_writes_full]; rfl

end Cert.Proof.Kernel

end
-- ==== Proof.Kernel.Chain.lean ====
/-
  The distance kernel's running minimum, unfolded: the body walks a half's 32 chunks of 128 columns and keeps, per row and
  lane, the least distance so far and the chunk it is first in. Here the values the body's parts hand on are read as that
  walk, at a row and a lane.
-/
module

public import proofs.«01_k».proof.Proof.Kernel.Body
public import Idealize.ShloMosaic.Lib.Pointwise.Index

@[expose] public section

set_option maxRecDepth 16384

noncomputable section

namespace Cert.Proof.Kernel

open Cert.KernelIdeal Cert.KernelIdeal.Gen
open Idealize.ShloMosaic

variable {F : FTy → Type} [FloatOps F]

/-- The running minimum from chunk `a` on for `n` chunks. -/
def runV (f : ℕ → F .f32) (a : ℕ) (v : F .f32) : ℕ → F .f32
  | 0 => v
  | n + 1 => FloatOps.minimumf (f (a + n)) (runV f a v n)

/-- The chunk number kept beside it: replaced where the next chunk's value is strictly below. -/
def runJ (f : ℕ → F .f32) (a : ℕ) (v : F .f32) (j : BitVec 32) : ℕ → BitVec 32
  | 0 => j
  | n + 1 => Scalar.select (FloatOps.cmpf .olt (f (a + n)) (runV f a v n)) (BitVec.ofNat 32 (a + n)) (runJ f a v j n)

/-- A walk continued is the longer walk. -/
theorem runV_add (f : ℕ → F .f32) (a : ℕ) (v : F .f32) (n k : ℕ) : runV f (a + n) (runV f a v n) k = runV f a v (n + k) := by
  induction k with
  | zero => rfl
  | succ k ih => simp only [runV, ih, Nat.add_assoc, ← Nat.add_assoc n k 1]; rfl

/-- The same of the chunk numbers. -/
theorem runJ_add (f : ℕ → F .f32) (a : ℕ) (v : F .f32) (j : BitVec 32) (n k : ℕ) :
    runJ f (a + n) (runV f a v n) (runJ f a v j n) k = runJ f a v j (n + k) := by
  induction k with
  | zero => rfl
  | succ k ih => simp only [runJ, ih, runV_add, Nat.add_assoc, ← Nat.add_assoc n k 1]; rfl

/-- Column `c` of the row of `y`. -/
def colAt (d : FVec F S512x8192 .f32) (y : S512x128.Idx) (c : ℕ) : F .f32 :=
  d (ix2 (y 0) ⟨c % 8192, Nat.mod_lt _ (by decide)⟩)

/-- A block of 128 columns from `o` on, read at a row and a lane. -/
theorem slice_at (d : FVec F S512x8192 .f32) (o : ℕ) (h : S512x8192.Slices ![0, o] S512x128) (y : S512x128.Idx) :
    extractStridedSlice S512x128 ![0, o] d h y = colAt d y (o + (y 1).val) := by
  unfold extractStridedSlice colAt
  congr 1
  funext a
  have h1 := h.2 1
  have hy : (y 1).val < 128 := (y 1).isLt
  match a with
  | 0 => apply Fin.ext; simp [ix2]
  | 1 =>
    apply Fin.ext
    have : o + (y 1).val < 8192 := by
      have : o + 128 ≤ 8192 := h1
      omega
    show o + (y 1).val = (o + (y 1).val) % 8192
    rw [Nat.mod_eq_of_lt this]

/-- A lane's values, chunk by chunk, from column `b` on. -/
def laneOf (d : FVec F S512x8192 .f32) (b : ℕ) (y : S512x128.Idx) (k : ℕ) : F .f32 := colAt d y (b + 128 * k + (y 1).val)

/-- The first half's running minimum. -/
theorem lowV_at (x0 : Vec F S512x32 .f32) (x1 : Vec F S32x8192 .f32) (x2 : Vec F S512x1 .f32) (x3 : Vec F S1x8192 .f32) (y : S512x128.Idx) :
    k0_pay68 (dist x0 x1 x2 x3) (lowV x0 x1 x2 x3) (k0_pay57 (dist x0 x1 x2 x3)) y
      = runV (laneOf (dist x0 x1 x2 x3) 0 y) 1 (laneOf (dist x0 x1 x2 x3) 0 y 0) 31 := by
  simp only [lowV, dist, k0_pay3, k0_pay4, k0_pay5, k0_pay6, k0_pay7, k0_pay8, k0_pay9, k0_pay10, k0_pay11, k0_pay12, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31,
    k0_pay32, k0_pay33, k0_pay35, k0_pay36, k0_pay37, k0_pay38, k0_pay39, k0_pay40, k0_pay41, k0_pay42, k0_pay43, k0_pay44, k0_pay45, k0_pay46,
    k0_pay47, k0_pay48, k0_pay49, k0_pay50, k0_pay51, k0_pay52, k0_pay53, k0_pay54, k0_pay56, k0_pay57, k0_pay58, k0_pay59, k0_pay60, k0_pay61,
    k0_pay62, k0_pay63, k0_pay64, k0_pay65, k0_pay66, k0_pay67, k0_pay68]
  generalize k0_pay2 x0 x1 x2 x3 = d
  simp only [minimumf, slice_at]
  rfl

/-- The second half's running minimum. -/
theorem highV_at (d : FVec F S512x8192 .f32) (y : S512x128.Idx) :
    highV d y = runV (laneOf d 4096 y) 1 (laneOf d 4096 y 0) 31 := by
  simp only [highV, k0_pay72, k0_pay73, k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay96, k0_pay97, k0_pay98, k0_pay99, k0_pay100,
    k0_pay101, k0_pay102, k0_pay103, k0_pay104, k0_pay105, k0_pay106, k0_pay107, k0_pay108, k0_pay109, k0_pay110, k0_pay111, k0_pay112,
    k0_pay113, k0_pay114, k0_pay115, k0_pay117, k0_pay118, k0_pay119, k0_pay120, k0_pay121, k0_pay122, k0_pay123, k0_pay124, k0_pay125,
    k0_pay126, k0_pay127, k0_pay128, k0_pay129, k0_pay130, k0_pay131, k0_pay132, k0_pay133, k0_pay134, k0_pay135, k0_pay136, k0_pay138]
  simp only [minimumf, slice_at]
  rfl

/-- The second half's chunk numbers. -/
theorem highJ_at (d : FVec F S512x8192 .f32) (y : S512x128.Idx) :
    highJ d y = runJ (laneOf d 4096 y) 1 (laneOf d 4096 y 0) 0#32 31 := by
  simp only [highJ, k0_pay72, k0_pay73, k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133, k0_pay134, k0_pay135,
    k0_pay136, k0_pay137, k0_pay138]
  simp only [minimumf, select, cmpf, broadcast, slice_at]
  rfl

/-! ## The lanes' reduction -/

/-- Each row's least value over the lanes. -/
def leastOf (v : FVec F S512x128 .f32) : FVec F S512 .f32 :=
  multiReduction .minimumf [1] S512 v 0x7F800000#32 reduces_S512x128_S512 (.inl rfl) rfl

/-- Each row's first column among the lanes that hold the least value: the chunk number times 128 plus the lane. -/
def firstOf (v : FVec F S512x128 .f32) (j : IVec S512x128 32) : IVec S512 32 :=
  multiReductionI .minsi [1] S512
    (select (cmpf .oeq v (broadcastTo S512x128 (shapeCast S512x1 (leastOf v) shapeCasts_S512_S512x1) broadcasts_S512x1_S512x128))
      (addi (muli j (broadcast S512x128 128#32)) (iota .tc S512x128 32 [1] iota_S512x128_d1_w32)) (broadcast S512x128 8192#32))
    2147483647#32 reduces_S512x128_S512 rfl

/-- A half's running minima and chunk numbers after all its chunks. -/
def halfV (d : FVec F S512x8192 .f32) (b : ℕ) : FVec F S512x128 .f32 := fun y => runV (laneOf d b y) 1 (laneOf d b y 0) 31
def halfJ (d : FVec F S512x8192 .f32) (b : ℕ) : IVec S512x128 32 := fun y => runJ (laneOf d b y) 1 (laneOf d b y 0) 0#32 31

/-- There and back between a vector and its column. -/
theorem there_back (v : FVec F S512 .f32) :
    shapeCast S512 (shapeCast S512x1 v shapeCasts_S512_S512x1) shapeCasts_S512x1_S512 = v := by
  funext i; exact congrArg v ((Shape.reshapeEquiv_reshapeEquiv _ _ i).trans (Shape.reshapeEquiv_self _ i))

/-- The first half's least distances. -/
theorem lowM_eq (x0 : Vec F S512x32 .f32) (x1 : Vec F S32x8192 .f32) (x2 : Vec F S512x1 .f32) (x3 : Vec F S1x8192 .f32) :
    lowM x0 x1 x2 x3 = leastOf (halfV (dist x0 x1 x2 x3) 0) := by
  have e : k0_pay68 (dist x0 x1 x2 x3) (lowV x0 x1 x2 x3) (k0_pay57 (dist x0 x1 x2 x3)) = halfV (dist x0 x1 x2 x3) 0 :=
    funext (lowV_at x0 x1 x2 x3)
  simp only [lowM, k0_pay71, k0_pay69, e, there_back]
  rfl

/-- The first half's first columns of them. -/
theorem lowI_eq (x0 : Vec F S512x32 .f32) (x1 : Vec F S32x8192 .f32) (x2 : Vec F S512x1 .f32) (x3 : Vec F S1x8192 .f32) :
    lowI x0 x1 x2 x3 = firstOf (halfV (dist x0 x1 x2 x3) 0) (halfJ (dist x0 x1 x2 x3) 0) := by
  have e : k0_pay68 (dist x0 x1 x2 x3) (lowV x0 x1 x2 x3) (k0_pay57 (dist x0 x1 x2 x3)) = halfV (dist x0 x1 x2 x3) 0 :=
    funext (lowV_at x0 x1 x2 x3)
  simp only [lowI, k0_pay70, k0_pay69, e]
  unfold firstOf leastOf
  congr 3
  funext y
  simp only [halfJ, lowJ, lowV, dist, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67]
  generalize k0_pay2 x0 x1 x2 x3 = d
  simp only [minimumf, select, cmpf, broadcast, slice_at, muli, addi]
  rfl

/-- The block of indices: the second half's first column, moved by 4096, where its least distance is strictly below the
    first half's, and the first half's elsewhere. -/
theorem outI_eq (x0 : Vec F S512x32 .f32) (x1 : Vec F S32x8192 .f32) (x2 : Vec F S512x1 .f32) (x3 : Vec F S1x8192 .f32) :
    outI x0 x1 x2 x3 = shapeCast S1x1x512
      (select (cmpf .olt (leastOf (halfV (dist x0 x1 x2 x3) 4096))
          (extf .f32 (truncf .bf16 (leastOf (halfV (dist x0 x1 x2 x3) 0)) bitsLt_bf16_f32) bitsLt_bf16_f32))
        (addi (firstOf (halfV (dist x0 x1 x2 x3) 4096) (halfJ (dist x0 x1 x2 x3) 4096)) (broadcast S512 4096#32))
        (firstOf (halfV (dist x0 x1 x2 x3) 0) (halfJ (dist x0 x1 x2 x3) 0))) shapeCasts_S512_S1x1x512 := by
  have eV : highV (dist x0 x1 x2 x3) = halfV (dist x0 x1 x2 x3) 4096 := funext (highV_at _)
  have eJ : highJ (dist x0 x1 x2 x3) = halfJ (dist x0 x1 x2 x3) 4096 := funext (highJ_at _)
  rw [outI, lowI_eq, lowM_eq, eV, eJ]
  simp only [k0_pay142, k0_pay141, k0_pay140, k0_pay139, there_back]
  rfl

/-- The accumulator: the block's sum of the squares of the smaller of the two halves' least distances is added to it. -/
theorem outA_eq (x0 : Vec F S512x32 .f32) (x1 : Vec F S32x8192 .f32) (x2 : Vec F S512x1 .f32) (x3 : Vec F S1x8192 .f32) (a : Elt F .f32)
    (s : FVec F S512 .f32) (hs : s = select (cmpf .olt (leastOf (halfV (dist x0 x1 x2 x3) 4096))
          (extf .f32 (truncf .bf16 (leastOf (halfV (dist x0 x1 x2 x3) 0)) bitsLt_bf16_f32) bitsLt_bf16_f32))
        (leastOf (halfV (dist x0 x1 x2 x3) 4096)) (leastOf (halfV (dist x0 x1 x2 x3) 0))) :
    outA x0 x1 x2 x3 a = Scalar.addf a (extractAt ![0, 0] (shapeCast S1x1 (multiReduction .add [1] S1
      (shapeCast S1x512 (mulf s s) shapeCasts_S512_S1x512) 0x00000000#32 reduces_S1x512_S1 (.inl rfl) rfl) shapeCasts_S1_S1x1)
        inpos_S1x1_p0_0) := by
  have eV : highV (dist x0 x1 x2 x3) = halfV (dist x0 x1 x2 x3) 4096 := funext (highV_at _)
  rw [outA, lowM_eq, eV, hs]
  simp only [k0_pay143, k0_pay141, k0_pay140, k0_pay139, there_back]
  rfl

end Cert.Proof.Kernel
-- ==== Proof.Kernel.Lanes.lean ====
/-
  The distance kernel's indices and minima over the extended reals: each half's walk ends at the first least column of the
  half, and so the block of indices holds, per row, the first least column of the row's distances.
-/
module

public import proofs.«01_k».proof.Proof.First
public import proofs.«01_k».proof.Proof.Kernel.Chain
public import Idealize.ShloMosaic.Lib.Pointwise
public import Idealize.ShloMosaic.Lib.WordCmp

@[expose] public section

set_option maxRecDepth 16384

noncomputable section

namespace Cert.Proof.Kernel

open Cert.KernelIdeal Cert.KernelIdeal.Gen Cert.Proof.First
open Idealize.ShloMosaic

/-- Folding an operation that always returns one of its operands, never a larger one by `κ`, over a finite set. -/
theorem fold_choice {ι β γ : Type} [DecidableEq ι] [LinearOrder γ] (op : β → β → β) [Std.Commutative op] [Std.Associative op] (κ : β → γ)
    (hop : ∀ a b, (op a b = a ∨ op a b = b) ∧ κ (op a b) ≤ κ a ∧ κ (op a b) ≤ κ b) (b : β) (f : ι → β) (s : Finset ι) :
    (s.fold op b f = b ∨ ∃ i ∈ s, s.fold op b f = f i) ∧ κ (s.fold op b f) ≤ κ b ∧ ∀ i ∈ s, κ (s.fold op b f) ≤ κ (f i) := by
  induction s using Finset.induction_on with
  | empty => exact ⟨.inl (Finset.fold_empty ..), le_of_eq (congrArg κ (Finset.fold_empty ..)), fun i hi => absurd hi (Finset.notMem_empty i)⟩
  | insert a s ha ih =>
    obtain ⟨h1, h2, h3⟩ := ih
    rw [Finset.fold_insert ha]
    obtain ⟨k1, k2, k3⟩ := hop (f a) (s.fold op b f)
    refine ⟨?_, k3.trans h2, fun i hi => ?_⟩
    · rcases k1 with k | k
      · exact .inr ⟨a, Finset.mem_insert_self .., k⟩
      · rcases h1 with h | ⟨i, hi, h⟩
        · exact .inl (k.trans h)
        · exact .inr ⟨i, Finset.mem_insert_of_mem hi, k.trans h⟩
    · rcases Finset.mem_insert.1 hi with rfl | hi
      · exact k2
      · exact k3.trans (h3 i hi)

/-- The running minimum and chunk number are the least of the chunks so far and the first chunk it is at. -/
theorem run_first (f : ℕ → EReal) (n : ℕ) (hn : n < 2 ^ 31) :
    ∃ i, runJ (F := Ideal) f 1 (f 0) 0#32 n = BitVec.ofNat 32 i ∧ IsFirst f (n + 1) i (runV (F := Ideal) f 1 (f 0) n) := by
  induction n with
  | zero => exact ⟨0, rfl, .one f⟩
  | succ n ih =>
    obtain ⟨i, h1, h2⟩ := ih (by omega)
    have e : (1 : ℕ) + n = n + 1 := Nat.add_comm ..
    simp only [runV, runJ, e, Ideal.minimumf_def, Ideal.cmpf_def, Ideal.cmp]
    by_cases hl : f (n + 1) < runV (F := Ideal) f 1 (f 0) n
    · refine ⟨n + 1, ?_, ?_⟩
      · simp [Scalar.select, hl]
      · rw [min_eq_left hl.le]; exact h2.step_lt hl
    · refine ⟨i, ?_, ?_⟩
      · simp [Scalar.select, hl, h1]
      · rw [min_eq_right (not_lt.1 hl)]; exact h2.step_ge hl

theorem top_word : (FloatOps.ofBits .f32 0x7F800000#32 : Ideal .f32) = ⊤ := by
  simp [Ideal.ofBits_def, Ideal.ofBits, Ideal.ieee]

/-- A row's least value: some lane holds it and no lane is below it. -/
theorem leastOf_spec (v : FVec Ideal S512x128 .f32) (r : Fin 512) :
    (∃ l : Fin 128, leastOf v (ix1 r) = v (ix2 r l)) ∧ ∀ l : Fin 128, leastOf v (ix1 r) ≤ v (ix2 r l) := by
  have e : leastOf v (ix1 r) = Finset.univ.fold min (⊤ : EReal) (fun l : Fin 128 => v (ix2 r l)) := by
    rw [← top_word]; unfold leastOf; pointwise
  obtain ⟨h1, -, h3⟩ := fold_choice (min : EReal → EReal → EReal) id
    (fun a b => ⟨min_choice a b, min_le_left a b, min_le_right a b⟩) ⊤ (fun l : Fin 128 => v (ix2 r l)) Finset.univ
  rw [e]
  refine ⟨?_, fun l => h3 l (Finset.mem_univ l)⟩
  rcases h1 with h | ⟨l, -, h⟩
  · refine ⟨0, h.trans ?_⟩
    have := h3 0 (Finset.mem_univ _)
    rw [h] at this
    exact (top_le_iff.1 this).symm
  · exact ⟨l, h⟩

/-- Column `c` of row `r`. -/
def rowAt (d : FVec Ideal S512x8192 .f32) (r : Fin 512) (c : ℕ) : EReal := d (ix2 r ⟨c % 8192, Nat.mod_lt _ (by decide)⟩)

theorem minsi_choice (a b : BitVec 32) : (IntOp.minsi a b = a ∨ IntOp.minsi a b = b) ∧
    (IntOp.minsi a b).toInt ≤ a.toInt ∧ (IntOp.minsi a b).toInt ≤ b.toInt := by
  unfold IntOp.minsi
  split <;> rename_i h <;> simp only [BitVec.slt_eq_decide, decide_eq_true_eq] at h
  · exact ⟨.inl rfl, le_refl _, h.le⟩
  · exact ⟨.inr rfl, by omega, le_refl _⟩

theorem word_toInt (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- A half's columns from `b` on: its least value and first column in the row are the first least of the half. -/
theorem half_first (d : FVec Ideal S512x8192 .f32) (b : ℕ) (r : Fin 512) :
    ∃ i, firstOf (halfV d b) (halfJ d b) (ix1 r) = BitVec.ofNat 32 i
      ∧ IsFirst (fun c => rowAt d r (b + c)) 4096 i (leastOf (halfV d b) (ix1 r)) := by
  -- each lane's walk
  have lane : ∀ l : Fin 128, ∃ i, halfJ d b (ix2 r l) = BitVec.ofNat 32 i ∧
      IsFirst (fun k => rowAt d r (b + (k * 128 + l.val))) 32 i (halfV d b (ix2 r l)) := fun l => by
    obtain ⟨i, h1, h2⟩ := run_first (laneOf (F := Ideal) d b (ix2 r l)) 31 (by decide)
    refine ⟨i, h1, h2.congr fun k _ => ?_⟩
    show rowAt d r (b + 128 * k + l.val) = _
    congr 1; omega
  choose J hJ hF using lane
  obtain ⟨⟨ls, hs⟩, hle⟩ := leastOf_spec (halfV d b) r
  have hJlt : ∀ l, J l < 32 := fun l => (hF l).lt
  -- the words folded over
  let word : Fin 128 → BitVec 32 := fun l =>
    if halfV d b (ix2 r l) = leastOf (halfV d b) (ix1 r) then BitVec.ofNat 32 (J l * 128 + l.val) else 8192#32
  have e : firstOf (halfV d b) (halfJ d b) (ix1 r) = Finset.univ.fold IntOp.minsi 2147483647#32 word := by
    unfold firstOf
    pointwise
    refine congrArg (fun f => Finset.fold IntOp.minsi 2147483647#32 f Finset.univ) (funext fun l => ?_)
    simp only [word, hJ]
    split
    · simp only [IntOp.addi, IntOp.muli]
      rw [BitVec.ofNat_add, BitVec.ofNat_mul]
    · rfl
  obtain ⟨h1, -, h3⟩ := fold_choice IntOp.minsi BitVec.toInt minsi_choice 2147483647#32 word Finset.univ
  rw [← e] at h1 h3
  have good : ∀ l, halfV d b (ix2 r l) = leastOf (halfV d b) (ix1 r) → word l = BitVec.ofNat 32 (J l * 128 + l.val) :=
    fun l h => if_pos h
  have hlt : ∀ l : Fin 128, J l * 128 + l.val < 4096 := fun l => by have := hJlt l; have := l.isLt; omega
  have hw := h3 ls (Finset.mem_univ _)
  rw [good ls hs.symm, word_toInt _ ((hlt ls).trans (by decide))] at hw
  have hls := hlt ls
  rcases h1 with h | ⟨l₀, -, h⟩
  · rw [h] at hw
    have : (2147483647#32).toInt = 2147483647 := by decide
    omega
  · have h0 : halfV d b (ix2 r l₀) = leastOf (halfV d b) (ix1 r) := by
      by_contra hn
      have hw8 : word l₀ = 8192#32 := if_neg hn
      rw [h, hw8] at hw
      have : (8192#32).toInt = 8192 := by decide
      omega
    refine ⟨J l₀ * 128 + l₀.val, h.trans (good l₀ h0), ?_⟩
    rw [← h0]
    refine IsFirst.lanes (K := 32) (L := 128) (fun l => if hl : l < 128 then J ⟨l, hl⟩ else 0)
      (fun l => if hl : l < 128 then halfV d b (ix2 r ⟨l, hl⟩) else 0) (fun l hl => ?_) l₀.val l₀.isLt (fun l hl => ?_) (fun l hl hv => ?_)
      |> fun H => by simpa only [l₀.isLt, dif_pos] using H
    · simp only [hl, dif_pos]; exact hF ⟨l, hl⟩
    · simp only [hl, l₀.isLt, dif_pos]; rw [h0]; exact hle ⟨l, hl⟩
    · simp only [hl, l₀.isLt, dif_pos] at hv ⊢
      have hv' : halfV d b (ix2 r ⟨l, hl⟩) = leastOf (halfV d b) (ix1 r) := hv.trans h0
      have := h3 ⟨l, hl⟩ (Finset.mem_univ _)
      rw [h, good _ hv', good _ h0, word_toInt _ ((hlt _).trans (by decide)), word_toInt _ ((hlt _).trans (by decide))] at this
      exact_mod_cast this

/-- The smaller of the two halves' least values, the first half's on a tie. -/
def leastAll (d : FVec Ideal S512x8192 .f32) : FVec Ideal S512 .f32 :=
  select (cmpf .olt (leastOf (halfV d 4096)) (extf .f32 (truncf .bf16 (leastOf (halfV d 0)) bitsLt_bf16_f32) bitsLt_bf16_f32))
    (leastOf (halfV d 4096)) (leastOf (halfV d 0))

/-- A row of the block of indices is the first least column of the row's distances, and the value squared into the
    accumulator is the least distance. -/
theorem row_first (x0 : Vec Ideal S512x32 .f32) (x1 : Vec Ideal S32x8192 .f32) (x2 : Vec Ideal S512x1 .f32) (x3 : Vec Ideal S1x8192 .f32) (r : Fin 512) :
    ∃ i, outI x0 x1 x2 x3 (ix3 0 0 r) = BitVec.ofNat 32 i
      ∧ IsFirst (rowAt (dist x0 x1 x2 x3) r) 8192 i (leastAll (dist x0 x1 x2 x3) (ix1 r)) := by
  rw [outI_eq]
  generalize dist x0 x1 x2 x3 = d
  obtain ⟨i, hi, h⟩ := half_first d 0 r
  obtain ⟨i', hi', h'⟩ := half_first d 4096 r
  have h : IsFirst (rowAt d r) 4096 i (leastOf (halfV d 0) (ix1 r)) := h.congr fun c _ => by rw [Nat.zero_add]
  have ev : leastAll d (ix1 r) = if leastOf (halfV d 4096) (ix1 r) < leastOf (halfV d 0) (ix1 r)
      then leastOf (halfV d 4096) (ix1 r) else leastOf (halfV d 0) (ix1 r) := by
    unfold leastAll; pointwise
  rw [ev]
  pointwise
  rw [hi, hi']
  by_cases hl : leastOf (halfV d 4096) (ix1 r) < leastOf (halfV d 0) (ix1 r)
  · refine ⟨4096 + i', ?_, ?_⟩
    · rw [if_pos hl, IntOp.addi, Nat.add_comm 4096 i', BitVec.ofNat_add]
    · rw [if_pos hl]; exact h.second h' hl
  · refine ⟨i, ?_, ?_⟩
    · rw [if_neg hl]
    · rw [if_neg hl]; exact h.first h' hl

/-- The accumulator moves by the sum of the squares of the rows' least distances. -/
theorem outA_sum (x0 : Vec Ideal S512x32 .f32) (x1 : Vec Ideal S32x8192 .f32) (x2 : Vec Ideal S512x1 .f32) (x3 : Vec Ideal S1x8192 .f32) (a : EReal) :
    outA (F := Ideal) x0 x1 x2 x3 a = a + ∑ r : Fin 512, leastAll (dist x0 x1 x2 x3) (ix1 r) * leastAll (dist x0 x1 x2 x3) (ix1 r) := by
  rw [outA_eq x0 x1 x2 x3 a (leastAll (dist x0 x1 x2 x3)) rfl]
  pointwise

end Cert.Proof.Kernel
-- ==== Proof.Kernel.Region.lean ====
/-
  The TensorCore call of the kernel as one region run before the SparseCore call: the contents of its arrays and of the
  accumulator point by point, the body's obligation at every point, and the region's step under the units the core still owes
  the SparseCores. Stated over any contents of the buffers at the region's entry.
-/
module

public import proofs.«01_k».proof.Proof.Kernel.Body
public import proofs.«01_k».proof.Proof.Host
public import Idealize.ShloMosaic.Lib.Pipeline.RegionArrays
public import Idealize.ShloMosaic.Lib.Pipeline.Value

@[expose] public section

set_option maxRecDepth 16384
set_option Elab.async false

noncomputable section

namespace Cert.Proof.Kernel

open Cert.KernelIdeal Cert.KernelIdeal.Gen

open Idealize.ShloMosaic Idealize.ShloMosaic.TcCoe Idealize.ShloMosaic.Tactic
open Idealize.ShloMosaic.SparseCore.Cfg (HIx)
open Idealize.ShloMosaic.Pipeline (Dat BodyObligation RegionSeg)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Host

variable {F : FTy → Type} [FloatOps F]

local notation "𝕄" => MT nD τ sig (HIx 1) (Elt F) ℕ UU ℕ

variable (V : Valuation τ sig (Elt F))

/-! ## Blocks and the accumulator -/

/-- Window `w`'s block at point `t` of its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- A point's four input blocks at their vector types. -/
abbrev in0 (c : Dev nD) (t : Fin cfg0.N) : Vec F S512x32 .f32 := blk V c 0 t
abbrev in1 (c : Dev nD) (t : Fin cfg0.N) : Vec F S32x8192 .f32 := blk V c 1 t
abbrev in2 (c : Dev nD) (t : Fin cfg0.N) : Vec F S512x1 .f32 := blk V c 2 t
abbrev in3 (c : Dev nD) (t : Fin cfg0.N) : Vec F S1x8192 .f32 := blk V c 3 t

/-- The accumulator before point `n` (after point `n - 1`). -/
def acc (c : Dev nD) : ℕ → F .f32
  | 0 => Scalar.ofBits .f32 0x00000000#32
  | n + 1 => if h : n < cfg0.N then
      outA (in0 V c ⟨n, h⟩) (in1 V c ⟨n, h⟩) (in2 V c ⟨n, h⟩) (in3 V c ⟨n, h⟩) (accIn (grid0.coords ⟨n, h⟩) (acc c n))
    else acc c n

theorem acc_succ (c : Dev nD) (t : Fin cfg0.N) :
    acc V c (t.val + 1) = outA (in0 V c t) (in1 V c t) (in2 V c t) (in3 V c t) (accIn (grid0.coords t) (acc V c t.val)) := by
  rw [acc, dif_pos t.isLt]

/-- The scratch before point `n`: at anything before the first, at the accumulator after. -/
def PhiN (c : Dev nD) (n : ℕ) : sProp 𝕄 :=
  if n = 0 then iprop(∃ a : F .f32, owns (c : Thread nD τ) (Memref.whole cc0_scratch0) fullShare ((fun _ => a : Vec F S1 .f32)))
  else owns (c : Thread nD τ) (Memref.whole cc0_scratch0) fullShare ((fun _ => acc V c n : Vec F S1 .f32))

/-- The proof data of the region, the core owing throughout what it owes the SparseCores. -/
def dat (c : Dev nD) : Dat τ (Elt F) (HIx 1) ℕ UU ℕ cfg0 c where
  A w := V (Proc.devRef .tc (Pipeline.arrRef spec0 w))
  after w t := match w with
    | ⟨0, _⟩ => blk V c 0 t
    | ⟨1, _⟩ => blk V c 1 t
    | ⟨2, _⟩ => blk V c 2 t
    | ⟨3, _⟩ => blk V c 3 t
    | ⟨4, _⟩ => outI (in0 V c t) (in1 V c t) (in2 V c t) (in3 V c t)
    | ⟨5, _⟩ => k0_pay1 (acc V c (t.val + 1))
  Φ t := PhiN V c t.val
  q _ := fullShare
  owed _ := (K (F := F)).Otc c 0
  recorded _ := {p | (K (F := F)).lev ((c : Thread nD τ), p.1) p.2 ≤ 0}

/-- The data per pipeline. -/
def dats (V : Dev nD → Valuation τ sig (Elt F)) : (p : Fin 1) → (c : Dev nD) → Dat τ (Elt F) (HIx 1) ℕ UU ℕ (cfgs p) c := fun _ c => dat (V c) c

theorem before_0 (c : Dev nD) (t : Fin cfg0.N) (d) : (dat V c).before 0 t d = blk V c 0 t :=
  ((dat V c).before_in_eq_fetched 0 rfl (fun _ => rfl) (fun _ _ _ => rfl) (fun t => rfl) t d).trans rfl
theorem before_1 (c : Dev nD) (t : Fin cfg0.N) (d) : (dat V c).before 1 t d = blk V c 1 t :=
  ((dat V c).before_in_eq_fetched 1 rfl (fun _ => rfl) (fun _ _ _ => rfl) (fun t => rfl) t d).trans rfl
theorem before_2 (c : Dev nD) (t : Fin cfg0.N) (d) : (dat V c).before 2 t d = blk V c 2 t :=
  ((dat V c).before_in_eq_fetched 2 rfl (fun _ => rfl) (fun _ _ _ => rfl) (fun t => rfl) t d).trans rfl
theorem before_3 (c : Dev nD) (t : Fin cfg0.N) (d) : (dat V c).before 3 t d = blk V c 3 t :=
  ((dat V c).before_in_eq_fetched 3 rfl (fun _ => rfl) (fun _ _ _ => rfl) (fun t => rfl) t d).trans rfl

/-! ## The body's obligation -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, atLast (grid0.coords t) → cfg0.idle 5 (grid0.coords t) = false := by decide +kernel
theorem idle_5 : ∀ t : Fin cfg0.N, ¬ atLast (grid0.coords t) → cfg0.idle 5 (grid0.coords t) = true := by decide +kernel
theorem noflush_5 : ∀ t : Fin cfg0.N, ¬ atLast (grid0.coords t) → (cfg0.win 5).flush t = false := by decide +kernel

/-- The scratch before a point is at some value, which enters the point as the accumulator does. -/
theorem phi_open (c : Dev nD) (t : Fin cfg0.N) :
    PhiN V c t.val ⊢ iprop(∃ a : F .f32, ⌜accIn (grid0.coords t) a = accIn (grid0.coords t) (acc V c t.val)⌝
      ∗ owns (c : Thread nD τ) (Memref.whole cc0_scratch0) fullShare ((fun _ => a : Vec F S1 .f32))) := by
  unfold PhiN
  by_cases h : t.val = 0
  · rw [if_pos h]
    iintro ⟨%a, H⟩; iexists a
    isplitr
    · ipureintro; rw [accIn_pos ((atFirst_iff t).mpr h), accIn_pos ((atFirst_iff t).mpr h)]
    iexact H
  · rw [if_neg h]
    iintro H; iexists (acc V c t.val)
    isplitr
    · ipureintro; rfl
    iexact H

theorem phi_succ (c : Dev nD) (t : Fin cfg0.N) :
    PhiN V c (t.val + 1) = (owns (c : Thread nD τ) (Memref.whole cc0_scratch0) fullShare ((fun _ => acc V c (t.val + 1) : Vec F S1 .f32)) : sProp 𝕄) := by
  unfold PhiN; rw [if_neg (Nat.succ_ne_zero _)]

/-- The current staging memrefs and their wholeness. -/
abbrev ms0_0 (t : Fin cfg0.N) : Memref sig .tc .vmem S512x32 .f32 := win0_0.stage (cfg0.slots t 0)
abbrev ms0_1 (t : Fin cfg0.N) : Memref sig .tc .vmem S32x8192 .f32 := win0_1.stage (cfg0.slots t 1)
abbrev ms0_2 (t : Fin cfg0.N) : Memref sig .tc .vmem S512x1 .f32 := win0_2.stage (cfg0.slots t 2)
abbrev ms0_3 (t : Fin cfg0.N) : Memref sig .tc .vmem S1x8192 .f32 := win0_3.stage (cfg0.slots t 3)
abbrev ms0_4 (t : Fin cfg0.N) : Memref sig .tc .vmem S1x1x512 .i32 := win0_4.stage (cfg0.slots t 4)
abbrev ms0_5 (t : Fin cfg0.N) : Memref sig .tc .vmem S1x1 .f32 := win0_5.stage (cfg0.slots t 5)

/-- What the body is called with at a point, -/
def bodyPre (c : Dev nD) (t : Fin cfg0.N) : sProp 𝕄 :=
  iprop((dat V c).Φ t.castSucc ∗ (dat V c).owesAt none t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- and what it returns. -/
def bodyPost (c : Dev nD) (t : Fin cfg0.N) : sProp 𝕄 :=
  iprop((dat V c).Φ t.succ ∗ (dat V c).owesAt none t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem leaves_0 (c : Dev nD) (t : Fin cfg0.N) : (dat V c).leavesExact 0 t = owns (c : Thread nD τ) (ms0_0 t) fullShare (in0 V c t) := by
  unfold Dat.leavesExact; rw [live_0 t]; rfl
theorem leaves_1 (c : Dev nD) (t : Fin cfg0.N) : (dat V c).leavesExact 1 t = owns (c : Thread nD τ) (ms0_1 t) fullShare (in1 V c t) := by
  unfold Dat.leavesExact; rw [live_1 t]; rfl
theorem leaves_2 (c : Dev nD) (t : Fin cfg0.N) : (dat V c).leavesExact 2 t = owns (c : Thread nD τ) (ms0_2 t) fullShare (in2 V c t) := by
  unfold Dat.leavesExact; rw [live_2 t]; rfl
theorem leaves_3 (c : Dev nD) (t : Fin cfg0.N) : (dat V c).leavesExact 3 t = owns (c : Thread nD τ) (ms0_3 t) fullShare (in3 V c t) := by
  unfold Dat.leavesExact; rw [live_3 t]; rfl
theorem leaves_4 (c : Dev nD) (t : Fin cfg0.N) :
    (dat V c).leavesExact 4 t = owns (c : Thread nD τ) (ms0_4 t) fullShare (outI (in0 V c t) (in1 V c t) (in2 V c t) (in3 V c t)) := by
  unfold Dat.leavesExact; rw [live_4 t]; rfl
/-- The sum's window after the body: written at the last point, as it was before every other. -/
theorem leaves_5 (c : Dev nD) (t : Fin cfg0.N) (d) :
    (owns (c : Thread nD τ) (ms0_5 t) fullShare (outL (grid0.coords t) (acc V c (t.val + 1)) ((dat V c).before 5 t d)) : sProp 𝕄)
      ⊢ (dat V c).leavesExact 5 t := by
  by_cases h : atLast (grid0.coords t)
  · rw [outL_pos h]; unfold Dat.leavesExact; rw [live_5 t h]; exact .rfl
  · rw [outL_neg h, Dat.leavesExact_idle (dat V c) 5 t (idle_5 t h) (noflush_5 t h)]
    iintro H; iexists d; iexact H

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt none t.succ = (dat V c).owesAt none t.castSucc from rfl,
    show (dat V c).Φ t.succ = PhiN V c (t.val + 1) from rfl, show (dat V c).Φ t.castSucc = PhiN V c t.val from rfl,
    phi_succ, leaves_0, leaves_1, leaves_2, leaves_3, leaves_4]
  refine (sep_mono_left (phi_open V c t)).trans ?_
  iintro ⟨⟨%a, %ha, HS⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ (in0 V c t) (in1 V c t) (in2 V c t) (in3 V c t)
    ((dat V c).before 4 t d4) ((dat V c).before 5 t d5) a Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  rw [ha, ← acc_succ]
  iintro ⟨H0, H1, H2, H3, H4, H5, HS⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  iapply (leaves_5 V c t d5); iexact H5

theorem defs₀_row (t : Fin cfg0.N) :
    defs₀ (F := F) .tc cfg0.body (cfg0.bodyArgs t (cfg0.slots t)) = bodyAt0 t := by
  rfl

/-- The library's obligation of the body, at every point. -/
theorem body_obligation (c : Dev nD) : BodyObligation (dat V c) (defs₀ (F := F)) Variants.none none Set.univ := fun t => by
  rw [bigSep_W0, bigSep_W0, defs₀_row]
  exact triple_restated (sound_body V c t) rfl .rfl fun _ => .rfl

/-! ## The region -/

/-- The buffers the region leaves: the windows' arrays at their final contents, every other buffer as found. -/
def left (c : Dev nD) : Valuation τ sig (Elt F) :=
  Pipeline.withArrays spec0 c V fun w => (dat V c).arrAt w cfg0.N

theorem left_arr (c : Dev nD) (w : Fin cfg0.W) : left V c (Proc.devRef .tc (Pipeline.arrRef spec0 w)) = (dat V c).arrAt w cfg0.N :=
  Pipeline.withArrays_arr spec0 winFacts0.arr_inj c V _ w

theorem left_of_ne (c : Dev nD) (b : Ref sig .tc) (hb : ∀ w, Pipeline.arrRef spec0 w ≠ b) :
    left V c (Proc.devRef .tc b) = V (Proc.devRef .tc b) :=
  Pipeline.withArrays_of_ne spec0 c V _ b hb

/-- What the core owes the SparseCores, with what it has recorded. -/
def duesAt (c : Dev nD) : sProp 𝕄 :=
  iprop(∃ W, ⌜(K (F := F)).WBelow (SparseCore.T c) W 0⌝ ∗ owes (SparseCore.T c) ((K (F := F)).Otc c 0) W)

/-- It owes nothing at the kernel's own waits. -/
theorem otc_none (c : Dev nD) (g : GSem nD τ sig) : (K (F := F)).Otc c 0 g (none : HIx 1) = 0 := by
  by_contra h
  have h1 := (K (F := F)).lev_of_Otc_pos (d := c) (n := 0) (g := g) (ι := none) (Nat.pos_of_ne_zero h)
  have h2 : (K (F := F)).lev g (none : HIx 1) = 0 := rfl
  omega

abbrev adm : (p : Fin 1) → ((pcfgs (F := F)) p).Adm := fun p => (cfgs p).toPCfg_adm

/-- The one position of a one-element vector. -/
def pos0 : S1.Idx := fun | 0 => (⟨0, Nat.one_pos⟩ : Fin 1)

/-- A one-element vector is constant. -/
theorem one_const (f : Vec F S1 .f32) : (fun _ => f pos0 : Vec F S1 .f32) = f := by
  funext x
  refine congrArg f (funext fun a => Fin.ext ?_)
  obtain rfl : a = 0 := Subsingleton.elim (α := Fin 1) a 0
  have : (x 0).val < 1 := (x 0).isLt
  show 0 = (x 0).val
  omega

/-- The scratch at anything, as the launch hands it. -/
theorem scratch_any (c : Dev nD) :
    (Pipeline.scopedRest spec0 c : sProp 𝕄) ⊢ iprop(∃ a : F .f32, owns (c : Thread nD τ) (Memref.whole cc0_scratch0) fullShare ((fun _ => a : Vec F S1 .f32))) := by
  rw [scopedRest0_eq]
  iintro ⟨%f, H⟩
  iexists ((show Vec F S1 .f32 from f) pos0)
  rw [one_const, owns_whole]
  iexact H

/-- The region's record, under the dues. -/
def seg (V : Dev nD → Valuation τ sig (Elt F)) :
    RegionSeg (pcfgs (F := F)) adm (dats V) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation (V c) c).loose
  hwaits c := Pipeline.cellsWaits_intro _ _ _ _ _ fun w s t => (K (F := F)).mayWait_none _ (otc_none c)
  pre c := iprop(StableHlo.held (c.tc : Thread nD τ) (Pipeline.arrRefs spec0) (V c) ∗ duesAt c)
  post c := iprop(StableHlo.held (c.tc : Thread nD τ) (Pipeline.arrRefs spec0) (left (V c) c) ∗ duesAt c)
  X _ := BI.emp
  Y _ := BI.emp
  Z _ := BI.emp
  hentry c := by
    have e : ((dats V 0 c).arrays ((dats V 0 c).arrAt · 0) : sProp 𝕄) = StableHlo.held (c.tc : Thread nD τ) (Pipeline.arrRefs spec0) (V c) :=
      Pipeline.arrays_held (pcfgs (F := F)) adm (dats V) 0 launch0.toP c ((dat (V c) c).share_full fun _ => rfl) _ (V c) fun w => rfl
    rw [Pipeline.ownSems0_none, Pipeline.prefHeld_of_none _ rfl, e]
    unfold duesAt
    iintro ⟨⟨Ha, ⟨%W, %hW, HO⟩⟩, -, -⟩
    imodintro
    isplitl [Ha]; · iexact Ha
    isplitr; · iempintro
    isplitl [HO]
    · iexists W; isplitr
      · ipureintro; exact fun p hp => Or.inl (hW p hp)
      iexact HO
    isplitr; · iempintro
    iempintro
  hin c := by
    rw [show (dats V 0 c).Φ 0 = PhiN (V c) c 0 from rfl]
    unfold PhiN
    rw [if_pos rfl]
    iintro ⟨-, -, H⟩
    iapply (scratch_any c); iexact H
  hout c := by
    rw [Pipeline.ownSems0_none, show (dats V 0 c).Φ (Fin.last _) = PhiN (V c) c cfg0.N from rfl]
    unfold PhiN
    rw [if_neg (by rw [show cfg0.N = 32 from N_0]; decide)]
    iintro H
    isplitr; · iempintro
    isplitr; · iempintro
    iapply (show (owns (c : Thread nD τ) (Memref.whole cc0_scratch0) fullShare ((fun _ => acc (V c) c cfg0.N : Vec F S1 .f32)) : sProp 𝕄)
      ⊢ Pipeline.scopedRest spec0 c from by
        rw [scopedRest0_eq, owns_whole]; iintro H; iexists _; iexact H)
    iexact H
  hexit c := by
    have e : ((dats V 0 c).arrays ((dats V 0 c).arrAt · (Pipeline.pin (pcfgs (F := F)) adm 0).N) : sProp 𝕄)
        = StableHlo.held (c.tc : Thread nD τ) (Pipeline.arrRefs spec0) (left (V c) c) :=
      Pipeline.arrays_held (pcfgs (F := F)) adm (dats V) 0 launch0.toP c ((dat (V c) c).share_full fun _ => rfl) _ (left (V c) c)
        fun w => (left_arr (V c) c w).symm
    rw [e]
    unfold duesAt
    iintro ⟨Ha, ⟨%W, %hW, HO⟩, -, -⟩
    imodintro
    isplitl [Ha]; · iexact Ha
    iexists W; isplitr
    · ipureintro
      intro p hp
      rcases hW hp with h | ⟨w, s, h⟩
      · exact h
      · rw [h]; exact le_rfl
    iexact HO

/-- The pipeline's part of the launch's ghost state on a core. -/
def ghost (c : Dev nD) : sProp 𝕄 :=
  iprop(Pipeline.cellsGhost (Pipeline.pin (pcfgs (F := F)) adm) (EP (F := F)) 0 c ∗ Pipeline.toksInit (Pipeline.pin (pcfgs (F := F)) adm) (EP (F := F)) 0 c)

/-- The region's call in the pipelines' program, lifted into the kernel's. -/
theorem region_lift (c : Dev nD) (Φ : PUnit → sProp 𝕄) :
    wp frame (wpE (D (F := F)) 𝒱 (c.tc : Thread nD τ) none) Set.univ (.op (.customCall (Pipeline.entry 0) ()) .ret) Φ
      ⊢ wp frame (wpE ((K (F := F)).defs (D (F := F))) 𝒱 (c.tc : Thread nD τ) none) Set.univ
          (Prog.lift (.customCall (SparseCore.inner (Pipeline.entry 0)) ())) Φ :=
  (K (F := F)).wp_liftProg (D (F := F)) 𝒱 (c.tc : Thread nD τ) Set.univ none (.op (.customCall (Pipeline.entry 0) ()) .ret) Φ

/-- The region's step in the pipelines' program. -/
theorem region_step (c : Dev nD) (Φ : PUnit → sProp 𝕄) :
    iprop((iprop(boundary (c.tc : Thread nD τ) ∗ (seg fun _ => V).post c) -∗ |={Set.univ}=> Φ ⟨⟩)
        ∗ boundary (c.tc : Thread nD τ) ∗ (seg fun _ => V).pre c ∗ levAts (K (F := F)).L (K (F := F)).lev ∗ ghost c)
      ⊢ wp frame (wpE (D (F := F)) 𝒱 (c.tc : Thread nD τ) none) Set.univ (.op (.customCall (Pipeline.entry 0) ()) .ret) Φ :=
  Pipeline.RegionSeg.wp (pcfgs (F := F)) adm (dats fun _ => V) none cellOf_inj (EP (F := F)) (defs₀ (F := F)) 𝒱₀
    (K (F := F)).L (K (F := F)).lev (seg fun _ => V) c none (fun _ h => nomatch h) .ret Φ

/-- All host buffers are the region's arrays and the rest, which the region leaves alone. -/
theorem arrs_sub : Pipeline.arrRefs (τ := τ) spec0 ⊆ hostBufs τ sig := by
  intro b hb
  obtain ⟨r, hr, rfl⟩ := Finset.mem_map.mp hb
  obtain ⟨w, -, rfl⟩ := Finset.mem_image.mp hr
  exact mem_hostBufs (winFacts0.to₀.arr_unscoped w)

theorem held_rest (c : Dev nD) :
    (StableHlo.held (c.tc : Thread nD τ) (hostBufs τ sig \ Pipeline.arrRefs spec0) (left V c) : sProp 𝕄)
      = StableHlo.held (c.tc : Thread nD τ) (hostBufs τ sig \ Pipeline.arrRefs spec0) V := by
  refine held_congr _ fun b hb => ?_
  obtain ⟨hb, hn⟩ := Finset.mem_sdiff.mp hb
  obtain ⟨r, -, rfl⟩ := Finset.mem_map.mp hb
  exact left_of_ne V c r fun w e => hn (e ▸ Finset.mem_map_of_mem _ (Finset.mem_image_of_mem _ (Finset.mem_univ w)))

/-- The region's step in the kernel's program: from all host buffers held at `V`, the core's dues and the pipeline's ghost
    state, to the buffers as the region leaves them and the dues as they were. -/
theorem region_run (c : Dev nD) (Φ : PUnit → sProp 𝕄) :
    iprop((iprop(boundary (c.tc : Thread nD τ) ∗ StableHlo.held (c.tc : Thread nD τ) (hostBufs τ sig) (left V c) ∗ duesAt c) -∗ Φ ⟨⟩)
        ∗ boundary (c.tc : Thread nD τ) ∗ StableHlo.held (c.tc : Thread nD τ) (hostBufs τ sig) V ∗ duesAt c
        ∗ levAts (K (F := F)).L (K (F := F)).lev ∗ ghost c)
      ⊢ wp frame (wpE ((K (F := F)).defs (D (F := F))) 𝒱 (c.tc : Thread nD τ) none) Set.univ
          (Prog.lift (.customCall (SparseCore.inner (Pipeline.entry 0)) ())) Φ := by
  rw [StableHlo.held_sub_split _ arrs_sub V, StableHlo.held_sub_split _ arrs_sub (left V c), held_rest]
  refine .trans ?_ (region_lift c Φ)
  refine .trans ?_ (region_step V c Φ)
  rw [show (seg fun _ => V).post c = iprop(StableHlo.held (c.tc : Thread nD τ) (Pipeline.arrRefs spec0) (left V c) ∗ duesAt c) from rfl,
    show (seg fun _ => V).pre c = iprop(StableHlo.held (c.tc : Thread nD τ) (Pipeline.arrRefs spec0) V ∗ duesAt c) from rfl]
  iintro ⟨Hk, Hb, ⟨Ha, Hr⟩, Hd, Hl, Hg⟩
  isplitl [Hk Hr]
  · iintro ⟨Hb, Ha, Hd⟩
    imodintro
    iapply Hk
    isplitl [Hb]; · iexact Hb
    isplitl [Ha Hr]
    · isplitl [Ha]; · iexact Ha
      iexact Hr
    iexact Hd
  isplitl [Hb]; · iexact Hb
  isplitl [Ha Hd]
  · isplitl [Ha]; · iexact Ha
    iexact Hd
  isplitl [Hl]; · iexact Hl
  iexact Hg

end Cert.Proof.Kernel

end
-- ==== Proof.Kernel.Call.lean ====
/-
  The row gather as one SparseCore call: what the handshakes carry (each SparseCore its sixteen tasks' blocks of the
  indices and of the result and its sixteen shares of the table), the tasks' obligation, and the call's operands cut into
  the 32 tasks' and joined again with the result at the gathered rows.
-/
module

public import proofs.«01_k».proof.Proof.Kernel.Tile

@[expose] public section

noncomputable section

namespace Cert.Proof.Kernel

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem nCore_zero : (K (F := F)).nCore 0 = 2 := rfl
theorem nSub_zero : (K (F := F)).nSub 0 = 16 := rfl

/-- The coordinates of tile `s` of SparseCore `c`. -/
def coords (c : Fin 2) (s : Fin 16) : Coords :=
  fun a => match a with
    | ⟨0, _⟩ => c
    | ⟨1, _⟩ => s

variable (tab : Dev nD → S8192x128.Idx → Elt F .f32) (ix : Dev nD → S16384.Idx → BitVec 32) (o₀ : Dev nD → S16384x128.Idx → Elt F .f32)

/-- What a task is handed, and what it hands back. -/
abbrev goPts (d : Dev nD) (L : Coords) : sProp 𝕄 := iprop(iRowPts (ix d) d L ∗ xShPts (tab d) d L ∗ oRowPts d L (o₀ d))
abbrev tdPts (d : Dev nD) (L : Coords) : sProp 𝕄 := iprop(iRowPts (ix d) d L ∗ xShPts (tab d) d L ∗ oRowPts d L (gathered (tab d) (ix d)))

/-- Each SparseCore is handed its tasks' parts together. -/
def P : (K (F := F)).Pay (nD := nD) (Val := Elt F) (Name := ℕ) (U := UU) where
  st := fun q d c => match q with
    | 0 => bigSep Finset.univ fun s : Fin 16 => goPts tab ix o₀ d (coords (Fin.cast nCore_zero c) s)
  dn := fun q d c => match q with
    | 0 => bigSep Finset.univ fun s : Fin 16 => tdPts tab ix d (coords (Fin.cast nCore_zero c) s)
  go := fun q d c i => match q with
    | 0 => goPts tab ix o₀ d (coords (Fin.cast nCore_zero c) (Fin.cast nSub_zero i))
  td := fun q d c i => match q with
    | 0 => tdPts tab ix d (coords (Fin.cast nCore_zero c) (Fin.cast nSub_zero i))
  x := fun _ _ => iprop(emp)

instance P_storable : (P tab ix o₀).IsStorable where
  st q d c := match q with
    | 0 => (inferInstance : BI.Storable (upEmb : UEmb _ 𝕄) (bigSep Finset.univ fun s : Fin 16 => goPts tab ix o₀ d (coords (Fin.cast nCore_zero c) s)))
  dn q d c := match q with
    | 0 => (inferInstance : BI.Storable (upEmb : UEmb _ 𝕄) (bigSep Finset.univ fun s : Fin 16 => tdPts tab ix d (coords (Fin.cast nCore_zero c) s)))
  go q d c i := match q with
    | 0 => (inferInstance : BI.Storable (upEmb : UEmb _ 𝕄) (goPts tab ix o₀ d (coords (Fin.cast nCore_zero c) (Fin.cast nSub_zero i))))
  td q d c i := match q with
    | 0 => (inferInstance : BI.Storable (upEmb : UEmb _ 𝕄) (tdPts tab ix d (coords (Fin.cast nCore_zero c) (Fin.cast nSub_zero i))))

/-! ## The tasks' obligation -/

/-- A vector subcore's label runs the kernel at the subcore's coordinates. -/
theorem defs₀_vector (c : Fin τ.nSC) (s : Fin τ.nSub) :
    defs₀ (F := F) (.scVector c s) 1 ⟨⟩
      = SparseCore.onTile hcore1 hsub1 (fun c s => cc1_gather_kernel (coords c s)
          xV (Memref.isWhole_whole _) iV (Memref.isWhole_whole _) oV (Memref.isWhole_whole _)
          sV (Memref.isWhole_whole _) rV (Memref.isWhole_whole _) cc1_scratch2 cc1_scoped0 cc1_scoped1) ⟨⟩ c s := rfl

/-- A wait recorded at no call's index is one recorded at none or at the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr [HO]
  · ipureintro
    intro p hp
    rcases hW' p hp with h | h
    · exact .inl h
    · exact .inr (.inl h)
  · iexact HO

set_option maxRecDepth 16384 in
/-- Every task of the call, from what it is handed to what it hands back. -/
theorem tileObl (hin : ∀ d, InRange (ix d)) : (K (F := F)).TileObl (D (F := F)) 𝒱 (P tab ix o₀) v₀ 0 := by
  intro d c i O W hO _ _
  simp only [show (P tab ix o₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (tab d) (ix d) (o₀ d) d (coords ⟨_, hci.1⟩ ⟨_, hci.2⟩) facts (hin d) O W hO).trans (wp_mono frame _ _ fun _ => obl_post)

/-! ## The operands and their parts -/

/-- A SparseCore's parts are its tasks'. -/
theorem vecSplit : (K (F := F)).VecSplit' (P tab ix o₀) 0 := by
  intro d c
  have hcast : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  show (bigSep Finset.univ fun s : Fin 16 => goPts tab ix o₀ d (coords (Fin.cast nCore_zero c) s)) ⊢ |={Set.univ}=> iprop(
      (bigSep Finset.univ fun i : Fin ((K (F := F)).nSub 0) => goPts tab ix o₀ d (coords (Fin.cast nCore_zero c) (Fin.cast nSub_zero i)))
      ∗ ((bigSep Finset.univ fun i : Fin ((K (F := F)).nSub 0) => tdPts tab ix d (coords (Fin.cast nCore_zero c) (Fin.cast nSub_zero i)))
          -∗ bigSep Finset.univ fun s : Fin 16 => tdPts tab ix d (coords (Fin.cast nCore_zero c) s)))
  rw [hcast (fun s => goPts tab ix o₀ d (coords (Fin.cast nCore_zero c) s)), hcast (fun s => tdPts tab ix d (coords (Fin.cast nCore_zero c) s))]
  iintro H; imodintro
  isplitl [H]; · iexact H
  iintro H
  iexact H

/-- Two tasks whose blocks meet are one task. -/
theorem task_inj {p q : Fin 2 × Fin 16} (h : 2 * p.2.val + p.1.val = 2 * q.2.val + q.1.val) : p = q := by
  obtain ⟨c, s⟩ := p; obtain ⟨c', s'⟩ := q
  simp only at h
  have := c.isLt; have := c'.isLt
  exact Prod.ext (Fin.ext (show c.val = c'.val by omega)) (Fin.ext (show s.val = s'.val by omega))

/-- The tasks numbered. -/
def taskEquiv : Fin 2 × Fin 16 ≃ Fin 32 where
  toFun p := ⟨2 * p.2.val + p.1.val, by have := p.1.isLt; have := p.2.isLt; omega⟩
  invFun k := (⟨k.val % 2, by omega⟩, ⟨k.val / 2, by have := k.isLt; omega⟩)
  left_inv p := task_inj (by simp only; omega)
  right_inv k := Fin.ext (by simp only; omega)

/-- The indices are the 32 tasks' blocks of them. -/
theorem iPts_tasks (d : Dev nD) (f : S16384.Idx → BitVec 32) :
    (iPts f d : sProp 𝕄) = bigSep Finset.univ fun p : Fin 2 × Fin 16 => iRowPts f d (coords p.1 p.2) := by
  have hd : ∀ p ∈ (Finset.univ : Finset (Fin 2 × Fin 16)), ∀ q ∈ (Finset.univ : Finset (Fin 2 × Fin 16)), p ≠ q →
      Disjoint (iSet (coords p.1 p.2)) (iSet (coords q.1 q.2)) := by
    intro p _ q _ h
    rw [Finset.disjoint_left]
    intro j hj hj'
    rw [mem_iSet] at hj hj'
    exact h (task_inj (hj.symm.trans hj'))
  have hc : (Finset.univ : Finset (Fin 2 × Fin 16)).biUnion (fun p => iSet (coords p.1 p.2)) = Finset.univ := by
    ext j
    simp only [Finset.mem_biUnion, Finset.mem_univ, true_and, iff_true]
    have hj : (j 0).val < 16384 := (j 0).isLt
    refine ⟨taskEquiv.symm ⟨(j 0).val / 512, by omega⟩, (mem_iSet _ _).mpr ?_⟩
    exact (congrArg Fin.val (taskEquiv.apply_symm_apply ⟨(j 0).val / 512, by omega⟩)).symm
  unfold iPts iRowPts
  rw [← pointsTo_biUnion Finset.univ (ℓ := iLoc d) (fun p : Fin 2 × Fin 16 => iSet (coords p.1 p.2)) hd, hc]

/-- The result is the 32 tasks' blocks of it. -/
theorem oPts_tasks (d : Dev nD) (f : S16384x128.Idx → Elt F .f32) :
    (oPts d f : sProp 𝕄) = bigSep Finset.univ fun p : Fin 2 × Fin 16 => oRowPts d (coords p.1 p.2) f := by
  have hd : ∀ p ∈ (Finset.univ : Finset (Fin 2 × Fin 16)), ∀ q ∈ (Finset.univ : Finset (Fin 2 × Fin 16)), p ≠ q →
      Disjoint (oSet (coords p.1 p.2)) (oSet (coords q.1 q.2)) := by
    intro p _ q _ h
    rw [Finset.disjoint_left]
    intro j hj hj'
    rw [mem_oSet] at hj hj'
    exact h (task_inj (hj.symm.trans hj'))
  have hc : (Finset.univ : Finset (Fin 2 × Fin 16)).biUnion (fun p => oSet (coords p.1 p.2)) = Finset.univ := by
    ext j
    simp only [Finset.mem_biUnion, Finset.mem_univ, true_and, iff_true]
    have hj : (j 0).val < 16384 := (j 0).isLt
    refine ⟨taskEquiv.symm ⟨(j 0).val / 512, by omega⟩, (mem_oSet _ _).mpr ?_⟩
    exact (congrArg Fin.val (taskEquiv.apply_symm_apply ⟨(j 0).val / 512, by omega⟩)).symm
  unfold oPts oRowPts
  rw [← pointsTo_biUnion Finset.univ (ℓ := oLoc d) (fun p : Fin 2 × Fin 16 => oSet (coords p.1 p.2)) hd, hc]

/-- The table is the 32 tasks' shares of it. -/
theorem xPts_tasks (d : Dev nD) (f : S8192x128.Idx → Elt F .f32) :
    (xPts f d : sProp 𝕄) = bigSep Finset.univ fun p : Fin 2 × Fin 16 => xShPts f d (coords p.1 p.2) := by
  unfold xPts
  rw [pointsTo_piecesOf (ℓ := xLoc d) Finset.univ f (o := 32) (by decide) fullShare, bigSep_univ_equiv taskEquiv]
  rfl

/-- What the call takes, from the three operands whole. -/
theorem st_eq (d : Dev nD) :
    (bigSep Finset.univ fun c : Fin ((K (F := F)).nCore 0) => (P tab ix o₀).st 0 d c)
      = (iprop(iPts (ix d) d ∗ xPts (tab d) d ∗ oPts d (o₀ d)) : sProp 𝕄) := by
  rw [iPts_tasks, xPts_tasks, oPts_tasks, ← bigSep_sep', ← bigSep_sep', bigSep_univ_prod]
  rfl

/-- What the call brings back: the operands whole, the result at the gathered rows. -/
theorem dn_eq (d : Dev nD) :
    (bigSep Finset.univ fun c : Fin ((K (F := F)).nCore 0) => (P tab ix o₀).dn 0 d c)
      = (iprop(iPts (ix d) d ∗ xPts (tab d) d ∗ oPts d (gathered (tab d) (ix d))) : sProp 𝕄) := by
  rw [iPts_tasks, xPts_tasks, oPts_tasks, ← bigSep_sep', ← bigSep_sep', bigSep_univ_prod]
  rfl

end Cert.Proof.Kernel

end
-- ==== Proof.Kernel.Run.lean ====
/-
  The whole kernel's program run: the host operations, the distance call on the TensorCore, the row gather on the
  SparseCores and the operations after it. Every execution whose distance call leaves indices in the table's range ends with
  the three results at the values named here.
-/
module

public import proofs.«01_k».proof.Proof.Kernel.Region
public import proofs.«01_k».proof.Proof.Kernel.Call

@[expose] public section

set_option maxRecDepth 16384

noncomputable section

namespace Cert.Proof.Kernel

open Cert.KernelIdeal Cert.KernelIdeal.Gen Cert.Proof.Host

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after TRef nullary unary binary wp_seq)

variable {F : FTy → Type} [FloatOps F]

local notation "𝕄" => MT nD τ sig (HIx 1) (Elt F) ℕ UU ℕ

/-! ## @main as host operations around the two calls -/

/-- The host operations before the distance call: the squared norms and the doubled transposed codebook. -/
abbrev opsA : List (HloOp τ sig (Elt F)) :=
  [ binary main_arg0 main_arg0 main_v0 (mulf : (⟨S16384x32, .f32⟩ : BufTy).Contents (Elt F) → (⟨S16384x32, .f32⟩ : BufTy).Contents (Elt F) → (⟨S16384x32, .f32⟩ : BufTy).Contents (Elt F)),
    nullary main_cst (constant S_ .f32 0x00000000#32),
    binary main_v0 main_cst main_v1 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    binary main_arg1 main_arg1 main_v3 (mulf : (⟨S8192x32, .f32⟩ : BufTy).Contents (Elt F) → (⟨S8192x32, .f32⟩ : BufTy).Contents (Elt F) → (⟨S8192x32, .f32⟩ : BufTy).Contents (Elt F)),
    nullary main_cst_0 (constant S_ .f32 0x00000000#32),
    binary main_v3 main_cst_0 main_v4 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v4 main_v5 (broadcastInDim S1x8192 ![1] bcast_S8192_S1x8192_1 : (⟨S8192, .f32⟩ : BufTy).Contents (Elt F) → (⟨S1x8192, .f32⟩ : BufTy).Contents (Elt F)),
    nullary main_cst_1 (constant S_ .f32 0x40000000#32),
    unary main_cst_1 main_v6 (broadcastInDim S8192x32 ![] bcast_S_S8192x32 : (⟨S_, .f32⟩ : BufTy).Contents (Elt F) → (⟨S8192x32, .f32⟩ : BufTy).Contents (Elt F)),
    binary main_v6 main_arg1 main_v7 (mulf : (⟨S8192x32, .f32⟩ : BufTy).Contents (Elt F) → (⟨S8192x32, .f32⟩ : BufTy).Contents (Elt F) → (⟨S8192x32, .f32⟩ : BufTy).Contents (Elt F)),
    unary main_v7 main_v8 ((transpose S32x8192 [1, 0] · transposes_S8192x32_S32x8192_1_0) : (⟨S8192x32, .f32⟩ : BufTy).Contents (Elt F) → (⟨S32x8192, .f32⟩ : BufTy).Contents (Elt F)) ]

/-- Those between the two calls: the results reshaped, the codebook padded. -/
abbrev opsB : List (HloOp τ sig (Elt F)) :=
  [ StableHlo.reshape main_v9_0 main_v10 (rfl : (.i32 : EltTy) = .i32) shapeCasts_S32x1x512_S16384,
    StableHlo.reshape main_v9_1 main_v11 (rfl : (.f32 : EltTy) = .f32) shapeCasts_S1x1_S_,
    nullary main_c (constantI S_ 32 0#32),
    TRef.unary (TRef.of (T := ⟨S_, .i32⟩) main_c) (TRef.of (T := ⟨S_, .f32⟩) main_call0_v0) (sitofp .f32),
    TRef.binary (TRef.of (T := ⟨S8192x32, .f32⟩) main_arg1) (TRef.of (T := ⟨S_, .f32⟩) main_call0_v0) (TRef.of (T := ⟨S8192x128, .f32⟩) main_v12)
      (fun x v => pad S8192x128 ![0, 0] ![0, 96] ![0, 0] x v pads_S8192x32_S8192x128_000_0960 h_S_) ]

/-- Those after the gather: the slice, the scaled loss, the straight-through sum. -/
abbrev opsC : List (HloOp τ sig (Elt F)) :=
  [ unary main_v13 main_v14 ((extractStridedSlice S16384x32 ![0, 0] · slices_S16384x128_S16384x32_0_0) : (⟨S16384x128, .f32⟩ : BufTy).Contents (Elt F) → (⟨S16384x32, .f32⟩ : BufTy).Contents (Elt F)),
    nullary main_cst_2 (constant S_ .f32 0x3FA00000#32),
    binary main_cst_2 main_v11 main_v15 (mulf : (⟨S_, .f32⟩ : BufTy).Contents (Elt F) → (⟨S_, .f32⟩ : BufTy).Contents (Elt F) → (⟨S_, .f32⟩ : BufTy).Contents (Elt F)),
    nullary main_cst_3 (constant S_ .f32 0x49000000#32),
    binary main_v15 main_cst_3 main_v16 (Host.divf : (⟨S_, .f32⟩ : BufTy).Contents (Elt F) → (⟨S_, .f32⟩ : BufTy).Contents (Elt F) → (⟨S_, .f32⟩ : BufTy).Contents (Elt F)),
    binary main_v14 main_arg0 main_v17 (subf : (⟨S16384x32, .f32⟩ : BufTy).Contents (Elt F) → (⟨S16384x32, .f32⟩ : BufTy).Contents (Elt F) → (⟨S16384x32, .f32⟩ : BufTy).Contents (Elt F)),
    binary main_arg0 main_v17 main_v18 (addf : (⟨S16384x32, .f32⟩ : BufTy).Contents (Elt F) → (⟨S16384x32, .f32⟩ : BufTy).Contents (Elt F) → (⟨S16384x32, .f32⟩ : BufTy).Contents (Elt F)) ]

theorem opsA_sub : ∀ op ∈ (opsA : List (HloOp τ sig (Elt F))), op.bufs ⊆ hostBufs τ sig := by
  intro op h
  simp only [List.mem_cons, List.not_mem_nil, or_false] at h
  rcases h with rfl | rfl | rfl | rfl | rfl | rfl | rfl | rfl | rfl | rfl | rfl | rfl
  · exact binary_sub rfl rfl rfl _ _ _ _
  · exact nullary_sub rfl _ _
  · exact binary_sub rfl rfl rfl _ _ _ _
  · exact unary_sub rfl rfl _ _ _
  · exact binary_sub rfl rfl rfl _ _ _ _
  · exact nullary_sub rfl _ _
  · exact binary_sub rfl rfl rfl _ _ _ _
  · exact unary_sub rfl rfl _ _ _
  · exact nullary_sub rfl _ _
  · exact unary_sub rfl rfl _ _ _
  · exact binary_sub rfl rfl rfl _ _ _ _
  · exact unary_sub rfl rfl _ _ _
theorem opsA_fresh : ∀ op ∈ (opsA : List (HloOp τ sig (Elt F))), op.fresh = ∅ := by
  intro op h
  simp only [List.mem_cons, List.not_mem_nil, or_false] at h
  rcases h with rfl | rfl | rfl | rfl | rfl | rfl | rfl | rfl | rfl | rfl | rfl | rfl <;> rfl
theorem opsB_sub : ∀ op ∈ (opsB : List (HloOp τ sig (Elt F))), op.bufs ⊆ hostBufs τ sig := by
  intro op h
  simp only [List.mem_cons, List.not_mem_nil, or_false] at h
  rcases h with rfl | rfl | rfl | rfl | rfl
  · exact reshape_sub rfl rfl _ _ _ _
  · exact reshape_sub rfl rfl _ _ _ _
  · exact nullary_sub rfl _ _
  · exact unary_sub rfl rfl _ _ _
  · exact binary_sub rfl rfl rfl _ _ _ _
theorem opsB_fresh : ∀ op ∈ (opsB : List (HloOp τ sig (Elt F))), op.fresh = ∅ := by
  intro op h
  simp only [List.mem_cons, List.not_mem_nil, or_false] at h
  rcases h with rfl | rfl | rfl | rfl | rfl <;> rfl
theorem opsC_sub : ∀ op ∈ (opsC : List (HloOp τ sig (Elt F))), op.bufs ⊆ hostBufs τ sig := by
  intro op h
  simp only [List.mem_cons, List.not_mem_nil, or_false] at h
  rcases h with rfl | rfl | rfl | rfl | rfl | rfl | rfl
  · exact unary_sub rfl rfl _ _ _
  · exact nullary_sub rfl _ _
  · exact binary_sub rfl rfl rfl _ _ _ _
  · exact nullary_sub rfl _ _
  · exact binary_sub rfl rfl rfl _ _ _ _
  · exact binary_sub rfl rfl rfl _ _ _ _
  · exact binary_sub rfl rfl rfl _ _ _ _
theorem opsC_fresh : ∀ op ∈ (opsC : List (HloOp τ sig (Elt F))), op.fresh = ∅ := by
  intro op h
  simp only [List.mem_cons, List.not_mem_nil, or_false] at h
  rcases h with rfl | rfl | rfl | rfl | rfl | rfl | rfl <;> rfl

theorem main_eq (d : Dev nD) : main (F := F) d
    = (seq opsA >>= fun _ => Prog.lift (.customCall (SparseCore.inner (Pipeline.entry 0)) ()) >>= fun _ => seq opsB >>= fun _ =>
        (K (F := F)).run d 0 >>= fun _ => seq opsC) := rfl

/-! ## The contents along the run -/

abbrev oDev : DevRef τ sig := Proc.devRef .tc oRef

variable (m : (ℓ : Loc nD τ sig) → Buf (Elt F) ℓ) (ρ : Dev nD → PrngReg)

/-- A device's buffers at the launch, before the distance call, after it, before the gather, after it, at the end. -/
def W₀ (d : Dev nD) : Valuation τ sig (Elt F) := fun b => m (d, b)
def W₁ (d : Dev nD) : Valuation τ sig (Elt F) := after opsA (W₀ m d)
def W₂ (d : Dev nD) : Valuation τ sig (Elt F) := left (W₁ m d) d
def W₃ (d : Dev nD) : Valuation τ sig (Elt F) := after opsB (W₂ m d)
def tabOf (d : Dev nD) : S8192x128.Idx → Elt F .f32 := W₃ m d (Proc.devRef .tc xRef)
def ixOf (d : Dev nD) : S16384.Idx → BitVec 32 := W₃ m d (Proc.devRef .tc iRef)
def resOf (d : Dev nD) : S16384x128.Idx → Elt F .f32 := W₃ m d oDev
def W₄ (d : Dev nD) : Valuation τ sig (Elt F) := Function.update (W₃ m d) oDev (gathered (tabOf m d) (ixOf m d))
def W₅ (d : Dev nD) : Valuation τ sig (Elt F) := after opsC (W₄ m d)

/-- The distance call's two results. -/
def idxArr (d : Dev nD) : Vec F S32x1x512 .i32 := (dat (W₁ m d) d).arrAt 4 cfg0.N
def sumArr (d : Dev nD) : Vec F S1x1 .f32 := (dat (W₁ m d) d).arrAt 5 cfg0.N

theorem W₂_idx (d : Dev nD) : W₂ m d (Proc.devRef .tc main_v9_0) = idxArr m d := left_arr (W₁ m d) d 4
theorem W₂_sum (d : Dev nD) : W₂ m d (Proc.devRef .tc main_v9_1) = sumArr m d := left_arr (W₁ m d) d 5
theorem W₁_arg0 (d : Dev nD) : W₁ m d (Proc.devRef .tc main_arg0) = m ((SparseCore.T d).loc main_arg0) := by
  unfold W₁; after_results <;> rfl
theorem W₁_arg1 (d : Dev nD) : W₁ m d (Proc.devRef .tc main_arg1) = m ((SparseCore.T d).loc main_arg1) := by
  unfold W₁; after_results <;> rfl
theorem W₂_arg0 (d : Dev nD) : W₂ m d (Proc.devRef .tc main_arg0) = m ((SparseCore.T d).loc main_arg0) :=
  (left_arr (W₁ m d) d 0).trans (((dat (W₁ m d) d).arrAt_in 0 rfl _).trans (W₁_arg0 m d))
theorem W₂_arg1 (d : Dev nD) : W₂ m d (Proc.devRef .tc main_arg1) = m ((SparseCore.T d).loc main_arg1) :=
  (left_of_ne (W₁ m d) d main_arg1 (by decide)).trans (W₁_arg1 m d)

/-- What the gather reads: the padded codebook and the indices the distance call left. -/
theorem tabOf_eq (d : Dev nD) : tabOf m d = pad S8192x128 ![0, 0] ![0, 96] ![0, 0] (m ((SparseCore.T d).loc main_arg1)) (sitofp .f32 (constantI S_ 32 0#32)) pads_S8192x32_S8192x128_000_0960 h_S_ := by
  unfold tabOf W₃
  simp only [opsB, TRef.binary, TRef.nullary, TRef.ternary, TRef.unary, TRef.toBuf, TRef.ofBuf, cast_eq]
  after_results
  rw [W₂_arg1]
theorem ixOf_eq (d : Dev nD) : ixOf m d = shapeCast S16384 (idxArr m d) shapeCasts_S32x1x512_S16384 := by
  unfold ixOf W₃
  simp only [opsB, TRef.binary, TRef.nullary, TRef.ternary, TRef.unary, TRef.toBuf, TRef.ofBuf, cast_eq]
  after_results
  rw [W₂_idx]; rfl
theorem W₃_v11 (d : Dev nD) : W₃ m d (Proc.devRef .tc main_v11) = shapeCast S_ (sumArr m d) shapeCasts_S1x1_S_ := by
  unfold W₃
  simp only [opsB, TRef.binary, TRef.nullary, TRef.ternary, TRef.unary, TRef.toBuf, TRef.ofBuf, cast_eq]
  after_results
  rw [W₂_sum]; rfl
theorem W₃_arg0 (d : Dev nD) : W₃ m d (Proc.devRef .tc main_arg0) = m ((SparseCore.T d).loc main_arg0) := by
  unfold W₃
  simp only [opsB, TRef.binary, TRef.nullary, TRef.ternary, TRef.unary, TRef.toBuf, TRef.ofBuf, cast_eq]
  after_results
  rw [W₂_arg0]
theorem W₃_arg1 (d : Dev nD) : W₃ m d (Proc.devRef .tc main_arg1) = m ((SparseCore.T d).loc main_arg1) := by
  unfold W₃
  simp only [opsB, TRef.binary, TRef.nullary, TRef.ternary, TRef.unary, TRef.toBuf, TRef.ofBuf, cast_eq]
  after_results
  rw [W₂_arg1]
theorem W₄_self (d : Dev nD) : W₄ m d (Proc.devRef .tc main_v13) = gathered (tabOf m d) (ixOf m d) := Function.update_self ..
theorem W₄_ne (d : Dev nD) (b : Ref sig .tc) (h : Proc.devRef (τ := τ) .tc b ≠ oDev) : W₄ m d (Proc.devRef .tc b) = W₃ m d (Proc.devRef .tc b) := Function.update_of_ne h ..

/-- The results: the straight-through sum, the loss, the indices; the arguments as they were. -/
theorem W₅_v18 (d : Dev nD) : W₅ m d (Proc.devRef .tc main_v18)
    = addf (m ((SparseCore.T d).loc main_arg0)) (subf ((extractStridedSlice S16384x32 ![0, 0] · slices_S16384x128_S16384x32_0_0) (gathered (tabOf m d) (ixOf m d))) (m ((SparseCore.T d).loc main_arg0))) := by
  unfold W₅
  after_results
  rw [W₄_self, W₄_ne m d main_arg0 (by decide), W₃_arg0]
theorem W₅_v16 (d : Dev nD) : W₅ m d (Proc.devRef .tc main_v16)
    = Host.divf (mulf (constant S_ .f32 0x3FA00000#32) (shapeCast S_ (sumArr m d) shapeCasts_S1x1_S_)) (constant S_ .f32 0x49000000#32) := by
  unfold W₅
  after_results
  rw [W₄_ne m d main_v11 (by decide), W₃_v11]
theorem W₅_v10 (d : Dev nD) : W₅ m d (Proc.devRef .tc main_v10) = ixOf m d := by
  unfold W₅
  after_results
  rw [W₄_ne m d main_v10 (by decide)]; rfl
theorem W₅_arg0 (d : Dev nD) : W₅ m d (Proc.devRef .tc main_arg0) = m ((SparseCore.T d).loc main_arg0) := by
  unfold W₅
  after_results
  rw [W₄_ne m d main_arg0 (by decide), W₃_arg0]
theorem W₅_arg1 (d : Dev nD) : W₅ m d (Proc.devRef .tc main_arg1) = m ((SparseCore.T d).loc main_arg1) := by
  unfold W₅
  after_results
  rw [W₄_ne m d main_arg1 (by decide), W₃_arg1]

/-! ## The launch element -/

/-- The handshakes' cells and tokens, the pipeline's, and the transfers' counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the gather's handshakes carry in this program. -/
abbrev PP : (K (F := F)).Pay (nD := nD) (Val := Elt F) (Name := ℕ) (U := UU) := P (tabOf m) (ixOf m) (resOf m)

theorem ghost_all : (BI.own ((EP (F := F)) (initOf (Pipeline.cells (Pipeline.pin (pcfgs (F := F)) adm) cellOf_inj) (Pipeline.launchToks (Pipeline.pin (pcfgs (F := F)) adm) cellOf_inj))) : sProp 𝕄)
    ⊢ |={Set.univ}=> bigSep Finset.univ fun d : Dev nD => ghost d := by
  iintro HP
  imod (Pipeline.fund_ghost (Pipeline.pin (pcfgs (F := F)) adm) (EP (F := F)) cellOf_inj) $$ HP with ⟨Hg, Ht⟩
  imodintro
  unfold ghost
  rw [bigSep_sep']
  have h1 : ∀ Φ : Fin 1 → sProp 𝕄, bigSep Finset.univ Φ = Φ 0 := fun Φ => bigSep_univ_of_subsingleton (0 : Fin 1)
  simp only [h1]
  isplitl [Hg]; · iexact Hg
  iexact Ht

theorem own_ghost (p : UP) (q : Counters) : (BI.own ((embR : Emb (UP × Counters) 𝕄) (p, q)) : sProp 𝕄)
    ⊢ iprop(BI.own ((EP (F := F)) p) ∗ BI.own (((Emb.inr : Emb Counters (UP × Counters)).trans (embR : Emb (UP × Counters) 𝕄)) q)) :=
  own_pair_emb embR p q

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (PP m).x q thr) := by
  have hemp : ∀ {I : Type} (s : Finset I), (bigSep s fun _ => iprop(emp)) = (iprop(emp) : sProp 𝕄) := fun s => bigSep_emp_const s
  unfold u₀
  iintro Hu
  ihave H := (ownU_pair _ _) $$ Hu
  icases H with ⟨HH, HR⟩
  ihave HR' := (own_ghost (F := F) _ _) $$ HR
  icases HR' with ⟨HP, -⟩
  imod (ghost_all (F := F)) $$ HP with HG
  imodintro
  isplitl [HH]; · iexact HH
  isplitl [HG]; · iexact HG
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), hemp]
  iempintro

/-! ## @main on the TensorCore -/

abbrev rest : Finset (DevRef τ sig) := (((hostBufs τ sig).erase (Proc.devRef .tc iRef)).erase (Proc.devRef .tc xRef)).erase oDev

/-- The gather's three operands out of the buffers held. -/
theorem held_operands (d : Dev nD) (V : Valuation τ sig (Elt F)) :
    (held (SparseCore.T d) (hostBufs τ sig) V : sProp 𝕄)
      = iprop(iPts (V (Proc.devRef .tc iRef)) d ∗ xPts (V (Proc.devRef .tc xRef)) d ∗ oPts d (V oDev) ∗ held (SparseCore.T d) rest V) := by
  rw [held_take (SparseCore.T d) (b := Proc.devRef .tc iRef) (mem_hostBufs rfl),
    held_take (SparseCore.T d) (b := Proc.devRef .tc xRef) (Finset.mem_erase.mpr ⟨by decide, mem_hostBufs rfl⟩),
    held_take (SparseCore.T d) (b := oDev) (Finset.mem_erase.mpr ⟨by decide, Finset.mem_erase.mpr ⟨by decide, mem_hostBufs rfl⟩⟩)]

/-- The TensorCore's state before the calls is its dues beside the rest. -/
theorem tcSt_dues (d : Dev nD) : ∃ R : sProp 𝕄, (K (F := F)).tcSt EH d 0 = iprop(duesAt d ∗ R) := ⟨_, rfl⟩

abbrev FIN (d : Dev nD) : sProp 𝕄 := held (SparseCore.T d) (hostBufs τ sig) (W₅ m d)

/-- @main on device `d`'s TensorCore: the host operations, the region, the reshapes and the padding, the gather, the rest. -/
theorem hmain (κ : GSem nD τ sig → ℕ) (d : Dev nD) :
    iprop((K (F := F)).ctx EH (PP m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (hostBufs τ sig) (W₀ m d) from unscopedBufs_held d (W₀ m d), main_eq]
  iintro ⟨#Hctx, Hst, ⟨Hb, Hbufs, Hts, -⟩, Hg⟩
  iapply (wp_seq 𝒱 none Set.univ d (hostBufs τ sig) _ opsA opsA_sub opsA_fresh (W₀ m d)) $$ [Hb Hbufs]
  · isplitl [Hb] <;> iassumption
  iintro ⟨Hb, Hbufs⟩
  rw [wp_bind]
  obtain ⟨R, hR⟩ := tcSt_dues (F := F) d
  ihave Hst' := (Entails.of_eq hR) $$ Hst
  icases Hst' with ⟨Hd, HR⟩
  iapply (region_run (W₁ m d) d _)
  isplitl [Hts HR]
  swap
  · isplitl [Hb]; · iexact Hb
    isplitl [Hbufs]; · iexact Hbufs
    isplitl [Hd]; · iexact Hd
    isplitr; · iapply (SparseCore.Cfg.ctx_levAts κ); iexact Hctx
    iexact Hg
  iintro ⟨Hb, Hbufs, Hd⟩
  ihave Hst := (Entails.of_eq hR.symm) $$ [Hd HR]
  · isplitl [Hd] <;> iassumption
  iapply (wp_seq 𝒱 none Set.univ d (hostBufs τ sig) _ opsB opsB_sub opsB_fresh (W₂ m d)) $$ [Hb Hbufs]
  · isplitl [Hb]; · iexact Hb
    iexact Hbufs
  iintro ⟨Hb, Hbufs⟩
  ihave Hbufs' := (Entails.of_eq (show (held d.tc (hostBufs τ sig) (after opsB (W₂ m d)) : sProp 𝕄)
      = iprop(iPts (ixOf m d) d ∗ xPts (tabOf m d) d ∗ oPts d (resOf m d) ∗ held (SparseCore.T d) rest (W₃ m d)) from held_operands d (W₃ m d))) $$ Hbufs
  icases Hbufs' with ⟨Hi, Hx, Ho, Hrest⟩
  rw [wp_bind]
  iapply ((K (F := F)).wp_run (D (F := F)) 𝒱 (EH := EH) (P := PP m) κ d 0) $$ [Hst Hi Hx Ho Hb Hts Hrest]
  isplitr; · iexact Hctx
  isplitl [Hst]; · iexact Hst
  isplitl [Hi Hx Ho]
  · rw [st_eq]
    isplitl [Hi]; · iexact Hi
    isplitl [Hx]; · iexact Hx
    iexact Ho
  iintro ⟨Hst, Hdn⟩
  ihave Hdn' := (Entails.of_eq (dn_eq (tabOf m) (ixOf m) (resOf m) d)) $$ Hdn
  icases Hdn' with ⟨Hi, Hx, Ho⟩
  ihave Hbufs := (Entails.of_eq (show (iprop(iPts (ixOf m d) d ∗ xPts (tabOf m d) d ∗ oPts d (gathered (tabOf m d) (ixOf m d)) ∗ held (SparseCore.T d) rest (W₃ m d)) : sProp 𝕄)
      = held (SparseCore.T d) (hostBufs τ sig) (W₄ m d) by
    rw [held_operands]; unfold W₄
    rw [Function.update_self, Function.update_of_ne (by decide), Function.update_of_ne (by decide),
      held_congr (SparseCore.T d) (S := rest) (V := Function.update (W₃ m d) oDev _) (V' := W₃ m d) fun b hb => Function.update_of_ne (Finset.ne_of_mem_erase hb) _ _]
    rfl)) $$ [Hi Hx Ho Hrest]
  · isplitl [Hi]; · iexact Hi
    isplitl [Hx]; · iexact Hx
    isplitl [Ho] <;> iassumption
  rw [show (seq opsC : Prog (TpuEff nD τ sig (Elt F) _ .tc) PUnit) = (seq opsC >>= pure) from (bind_pure _).symm]
  iapply (wp_seq 𝒱 none Set.univ d (hostBufs τ sig) pure opsC opsC_sub opsC_fresh (W₄ m d)) $$ [Hb Hbufs]
  · isplitl [Hb] <;> iassumption
  iintro ⟨Hb, Hbufs⟩
  rw [wp_pure]
  imodintro
  isplitl [Hst]; · iexact Hst
  isplitl [Hbufs]; · iexact Hbufs
  isplitl [Hb] <;> iassumption

def fq (d : Dev nD) (s' : Phys nD τ sig (Elt F)) : Prop := ∀ b ∈ hostBufs τ sig, s'.mem.mem (d, b) = W₅ m d b

theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') (c := d) (qs := fun _ => fullShare) (F := W₅ m d) (hostBufs τ sig))
  isplitl [HSI]; · iexact HSI
  iexact H

/-- Every weakly fair execution of the whole kernel whose distance call leaves indices in the codebook's range ends with
    every host buffer at the contents named here and every semaphore as at the start. -/
theorem run_main [∀ e, Nonempty (Elt F e)] (hin : ∀ d, InRange (ixOf m d)) :
    θ_run (Cert.KernelIdeal.defs (F := F)) (Cert.KernelIdeal.threads (F := F)) ⟨m, fun _ => 0, ρ⟩ (fun r =>
      (∀ (d : Dev nD) (b : Ref sig .tc), b.isScoped = false → r.2.mem ((SparseCore.T d).loc b) = W₅ m d (Proc.devRef .tc b)) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tabOf m) (ixOf m) (resOf m) hin)
    (fun q _ => match q with | 0 => SparseCore.Cfg.VecSplit.of_plain (vecSplit (tabOf m) (ixOf m) (resOf m)))
    m ρ main (fun d => ghost d) (FIN m) (u₀ (F := F)) (sep_elim_left.trans (hu₀ m)) (hmain m ρ) (fq m) (hfin m) _
    (fun _ h hz => ⟨fun d b hb => h d _ (mem_hostBufs hb), hz⟩)

end Cert.Proof.Kernel

end
-- ==== Proof.Kernel.Results.lean ====
/-
  What the distance call leaves in its two result arrays: the block of indices each grid point computes, side by side, and
  the accumulator after the last point.
-/
module

public import proofs.«01_k».proof.Proof.Kernel.Run
public import Idealize.ShloMosaic.Lib.Pipeline.ValueKit
public import Idealize.ShloMosaic.Lib.Pointwise

@[expose] public section

set_option maxRecDepth 16384

noncomputable section

namespace Cert.Proof.Kernel

open Cert.KernelIdeal Cert.KernelIdeal.Gen
open Idealize.ShloMosaic

variable {F : FTy → Type} [FloatOps F]
variable (V : Valuation τ sig (Elt F)) (c : Dev nD)

/-- A row's grid point. -/
def pt (t : Fin 32) : Fin cfg0.N := ⟨t.val, t.isLt.trans_eq N_0.symm⟩

/-- The block of indices point `t` leaves. -/
def idxBlk (t : Fin 32) : Vec F S1x1x512 .i32 := outI (in0 V c (pt t)) (in1 V c (pt t)) (in2 V c (pt t)) (in3 V c (pt t))

theorem index_at : ∀ t : Fin grid0.N, win0_0.index t = ![t.val, 0] ∧ win0_1.index t = ![0, 0] ∧ win0_2.index t = ![t.val, 0]
    ∧ win0_3.index t = ![0, 0] ∧ win0_4.index t = ![t.val, 0, 0] := by decide +kernel

theorem index_pt (t : Fin 32) : win0_0.index (pt t) = ![t.val, 0] ∧ win0_1.index (pt t) = ![0, 0] ∧ win0_2.index (pt t) = ![t.val, 0]
    ∧ win0_3.index (pt t) = ![0, 0] ∧ win0_4.index (pt t) = ![t.val, 0, 0] := index_at (pt t)

/-- The array of indices is those blocks, one under another. -/
theorem arr4_eq : (dat V c).arrAt 4 cfg0.N = fun i : S32x1x512.Idx => idxBlk V c (i 0) (ix3 0 0 (i 2)) := by
  refine (dat V c).arrAt_eq_of_covers 4 _ (by decide +kernel) fun t hf y => ?_
  have h32 : t.val < 32 := t.isLt.trans_eq N_0
  have hy0 : (y 0).val < 1 := (y 0).isLt
  have hy1 : (y 1).val < 1 := (y 1).isLt
  have e0 : ((win0_4.blk t).view.emb y) 0 = (⟨t.val, h32⟩ : Fin 32) := by
    apply Fin.ext; blk_simp [(index_at t).2.2.2.2]
  have e2 : ((win0_4.blk t).view.emb y) 2 = (⟨(y 2).val, (y 2).isLt⟩ : Fin 512) := by
    apply Fin.ext; blk_simp [(index_at t).2.2.2.2]
  have ey : y = (ix3 0 0 ⟨(y 2).val, (y 2).isLt⟩ : S1x1x512.Idx) := by
    funext a
    match a with
    | 0 => exact Fin.ext (by show (y 0).val = 0; omega)
    | 1 => exact Fin.ext (by show (y 1).val = 0; omega)
    | 2 => rfl
  blk_simp
  rw [e0, e2]
  exact congrArg (idxBlk V c ⟨t.val, h32⟩) ey

/-- The sum is the accumulator after the last point. -/
theorem arr5_eq : (dat V c).arrAt 5 cfg0.N = fun _ : S1x1.Idx => acc V c 32 := by
  refine (dat V c).arrAt_eq_of_after_last 5 (pt 31) (by decide +kernel) _ fun j => ?_
  blk_simp
  rfl

/-! ## A point's input blocks, as entries of the arrays -/

theorem in0_at (t : Fin 32) (r : Fin 512) (k : Fin 32) :
    in0 V c (pt t) (ix2 r k) = (V (Proc.devRef .tc main_arg0) : Vec F S16384x32 .f32) (ix2 ⟨512 * t.val + r.val, by omega⟩ k) := by
  unfold in0 blk
  blk_ext [(index_pt t).1]

theorem in1_at (t : Fin 32) (k : Fin 32) (q : Fin 8192) :
    in1 V c (pt t) (ix2 k q) = (V (Proc.devRef .tc main_v8) : Vec F S32x8192 .f32) (ix2 k q) := by
  unfold in1 blk
  blk_ext [(index_pt t).2.1]

theorem in2_at (t : Fin 32) (r : Fin 512) :
    in2 V c (pt t) (ix2 r 0) = (V (Proc.devRef .tc main_v2) : Vec F S16384x1 .f32) (ix2 ⟨512 * t.val + r.val, by omega⟩ 0) := by
  unfold in2 blk
  blk_ext [(index_pt t).2.2.1]

theorem in3_at (t : Fin 32) (q : Fin 8192) :
    in3 V c (pt t) (ix2 0 q) = (V (Proc.devRef .tc main_v5) : Vec F S1x8192 .f32) (ix2 0 q) := by
  unfold in3 blk
  blk_ext [(index_pt t).2.2.2.1]

/-! ## The host's arrays before the call -/

variable (m : (ℓ : Loc nD τ sig) → Buf (Elt F) ℓ) (d : Dev nD)

/-- The two arguments at their types. -/
abbrev xOf : Vec F S16384x32 .f32 := m ((SparseCore.T d).loc main_arg0)
abbrev wOf : Vec F S8192x32 .f32 := m ((SparseCore.T d).loc main_arg1)

theorem W₁_v8 : W₁ m d (Proc.devRef .tc main_v8) = transpose S32x8192 [1, 0]
    (mulf (broadcastInDim S8192x32 ![] bcast_S_S8192x32 (constant S_ .f32 0x40000000#32)) (wOf m d)) transposes_S8192x32_S32x8192_1_0 := by
  unfold W₁; after_results <;> rfl
theorem W₁_v2 : W₁ m d (Proc.devRef .tc main_v2) = broadcastInDim S16384x1 ![0] bcast_S16384_S16384x1_0
    (Host.reduceAdd (mulf (xOf m d) (xOf m d)) (constant S_ .f32 0x00000000#32) reducesTo_S16384x32_S16384_d1 h_S_) := by
  unfold W₁; after_results <;> rfl
theorem W₁_v5 : W₁ m d (Proc.devRef .tc main_v5) = broadcastInDim S1x8192 ![1] bcast_S8192_S1x8192_1
    (Host.reduceAdd (mulf (wOf m d) (wOf m d)) (constant S_ .f32 0x00000000#32) reducesTo_S8192x32_S8192_d1 h_S_) := by
  unfold W₁; after_results <;> rfl

end Cert.Proof.Kernel
-- ==== Proof.Kernel.Value.lean ====
/-
  The distance call's results over the extended reals: each row's index is the first least column of the row's distances,
  and the sum is that of the squares of the rows' least distances.
-/
module

public import proofs.«01_k».proof.Proof.Distance
public import proofs.«01_k».proof.Proof.Kernel.Lanes
public import proofs.«01_k».proof.Proof.Kernel.Results

@[expose] public section

set_option maxRecDepth 16384

noncomputable section

namespace Cert.Proof.Kernel

open Cert.KernelIdeal Cert.KernelIdeal.Gen Cert.Proof.First Cert.Proof.Distance
open Idealize.ShloMosaic
open scoped BigOperators

/-- A point's distances from its blocks. -/
theorem dist_at (x0 : Vec Ideal S512x32 .f32) (x1 : Vec Ideal S32x8192 .f32) (x2 : Vec Ideal S512x1 .f32) (x3 : Vec Ideal S1x8192 .f32)
    (r : Fin 512) (q : Fin 8192) :
    dist x0 x1 x2 x3 (ix2 r q) = Ideal.sqrt (max ((x2 (ix2 r 0) + x3 (ix2 0 q)) - ∑ k : Fin 32, x0 (ix2 r k) * x1 (ix2 k q)) 0) := by
  unfold dist
  pointwise [k0_pay2]

variable (m : (ℓ : Loc nD τ sig) → Buf (Elt Ideal) ℓ) (d : Dev nD)

/-- The arguments' entries. -/
def dataOf : Data := fun n k => xOf m d (ix2 n k)
def bookOf : Book := fun q k => wOf m d (ix2 q k)

/-- Row `512 t + r`. -/
abbrev row (t : Fin 32) (r : Fin 512) : Fin 16384 := ⟨512 * t.val + r.val, by omega⟩

theorem v8_at (k : Fin 32) (q : Fin 8192) : (W₁ m d (Proc.devRef .tc main_v8) : Vec Ideal S32x8192 .f32) (ix2 k q) = 2 * bookOf m d q k := by
  refine (congrFun (W₁_v8 m d) (ix2 k q)).trans ?_
  pointwise
  rw [two_word]; rfl
theorem v2_at (n : Fin 16384) : (W₁ m d (Proc.devRef .tc main_v2) : Vec Ideal S16384x1 .f32) (ix2 n 0) = ∑ k, dataOf m d n k * dataOf m d n k := by
  refine (congrFun (W₁_v2 m d) (ix2 n 0)).trans ?_
  pointwise
  rfl
theorem v5_at (q : Fin 8192) : (W₁ m d (Proc.devRef .tc main_v5) : Vec Ideal S1x8192 .f32) (ix2 0 q) = ∑ k, bookOf m d q k * bookOf m d q k := by
  refine (congrFun (W₁_v5 m d) (ix2 0 q)).trans ?_
  pointwise
  rfl
theorem arg0_at (n : Fin 16384) (k : Fin 32) : (W₁ m d (Proc.devRef .tc main_arg0) : Vec Ideal S16384x32 .f32) (ix2 n k) = dataOf m d n k :=
  congrFun (W₁_arg0 m d) (ix2 n k)

/-- A point's distances. -/
abbrev ptDist (t : Fin 32) : FVec Ideal S512x8192 .f32 :=
  dist (in0 (W₁ m d) d (pt t)) (in1 (W₁ m d) d (pt t)) (in2 (W₁ m d) d (pt t)) (in3 (W₁ m d) d (pt t))

/-- They are the problem's. -/
theorem dist_pt (t : Fin 32) (r : Fin 512) (q : Fin 8192) : ptDist m d t (ix2 r q) = far (dataOf m d) (bookOf m d) (row t r) q := by
  rw [ptDist, dist_at, in2_at, in3_at, v2_at, v5_at]
  rw [Finset.sum_congr rfl fun k _ => congrArg₂ (fun a b : EReal => a * b) ((in0_at (W₁ m d) d t r k).trans (arg0_at m d (row t r) k))
    ((in1_at (W₁ m d) d t k q).trans (v8_at m d k q))]
  rw [two_mul_dot]
  rfl

/-- A row's least distance. -/
def low (n : Fin 16384) : EReal := leastAll (ptDist m d ⟨n.val / 512, by omega⟩) (ix1 ⟨n.val % 512, by omega⟩)

theorem low_row (t : Fin 32) (r : Fin 512) : low m d (row t r) = leastAll (ptDist m d t) (ix1 r) := by
  have e1 : (⟨(row t r).val / 512, by omega⟩ : Fin 32) = t := Fin.ext (by show (512 * t.val + r.val) / 512 = t.val; omega)
  have e2 : (⟨(row t r).val % 512, by omega⟩ : Fin 512) = r := Fin.ext (by show (512 * t.val + r.val) % 512 = r.val; omega)
  unfold low
  rw [e1, e2]

/-- The indices the distance call leaves, as the gather reads them: row `n`'s is the word of the first least column. -/
theorem index_first (n : Fin 16384) :
    ∃ i, ixOf m d (ix1 n) = BitVec.ofNat 32 i ∧ IsFirst (farSeq (dataOf m d) (bookOf m d) n) 8192 i (low m d n) := by
  obtain ⟨t, r, rfl⟩ : ∃ t r, n = row t r :=
    ⟨⟨n.val / 512, by omega⟩, ⟨n.val % 512, by omega⟩, Fin.ext (by show n.val = 512 * (n.val / 512) + n.val % 512; omega)⟩
  obtain ⟨i, h1, h2⟩ := row_first (in0 (W₁ m d) d (pt t)) (in1 (W₁ m d) d (pt t)) (in2 (W₁ m d) d (pt t)) (in3 (W₁ m d) d (pt t)) r
  refine ⟨i, ?_, ?_⟩
  · have e : idxArr m d = fun i : S32x1x512.Idx => idxBlk (W₁ m d) d (i 0) (ix3 0 0 (i 2)) := arr4_eq (W₁ m d) d
    rw [ixOf_eq, e]
    have := t.isLt
    have := r.isLt
    pointwise
    refine Eq.trans ?_ h1
    have e1 : (⟨(512 * t.val + r.val) / 512, by omega⟩ : Fin 32) = t := Fin.ext (by show (512 * t.val + r.val) / 512 = t.val; omega)
    have e2 : (⟨(512 * t.val + r.val) % 512, by omega⟩ : Fin 512) = r := Fin.ext (by show (512 * t.val + r.val) % 512 = r.val; omega)
    rw [e1, e2]
    rfl
  · rw [low_row]
    exact h2.congr fun c _ => dist_pt m d t r _

/-- A point adds its rows' squares to the accumulator. -/
theorem acc_step (t : Fin 32) :
    (acc (W₁ m d) d (t.val + 1) : EReal) = acc (W₁ m d) d t.val + ∑ r : Fin 512, low m d (row t r) * low m d (row t r) := by
  have h := acc_succ (W₁ m d) d (pt t)
  have e : accIn (grid0.coords (pt t)) (acc (W₁ m d) d (pt t).val) = acc (W₁ m d) d (pt t).val := by
    by_cases h0 : atFirst (grid0.coords (pt t))
    · rw [accIn_pos h0, (atFirst_iff (pt t)).1 h0]; rfl
    · rw [accIn_neg h0]
  rw [e, outA_sum] at h
  refine h.trans (congrArg (fun s : EReal => acc (W₁ m d) d t.val + s) (Finset.sum_congr rfl fun r _ => ?_))
  rw [low_row]

/-- The accumulator after `k` points. -/
theorem acc_at (k : ℕ) (hk : k ≤ 32) :
    (acc (W₁ m d) d k : EReal) = ∑ t : Fin k, ∑ r : Fin 512, low m d (row ⟨t.val, by omega⟩ r) * low m d (row ⟨t.val, by omega⟩ r) := by
  induction k with
  | zero =>
    rw [Fin.sum_univ_zero]
    show (Ideal.ofBits .f32 0x00000000#32 : EReal) = 0
    simp [Ideal.ofBits, Ideal.ieee]
  | succ k ih =>
    rw [Fin.sum_univ_castSucc, acc_step m d ⟨k, by omega⟩, ih (by omega)]
    rfl

/-- The sum the distance call leaves. -/
theorem sum_at (y : S1x1.Idx) : sumArr m d y = ∑ n : Fin 16384, low m d n * low m d n := by
  have e : sumArr m d = fun _ : S1x1.Idx => acc (W₁ m d) d 32 := arr5_eq (W₁ m d) d
  rw [e]
  show acc (W₁ m d) d 32 = _
  rw [acc_at m d 32 le_rfl, ← Finset.sum_product', ← (finProdFinEquiv (m := 32) (n := 512)).sum_comp]
  refine Finset.sum_congr rfl fun p _ => ?_
  have : row p.1 p.2 = (finProdFinEquiv p : Fin (32 * 512)) := Fin.ext (by simp [finProdFinEquiv, Nat.add_comm])
  rw [← this]

end Cert.Proof.Kernel
-- ==== Proof.Reference.Run.lean ====
/-
  The reference run: its host operations as three lists, and every execution of it ended at the contents they leave.
-/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.Proof.Reference

open Cert.ReferenceIdeal Cert.ReferenceIdeal.Gen

open Idealize.ShloMosaic Idealize.ShloMosaic.TcCoe Idealize.SL.Sem Idealize.ShloMosaic.StableHlo

variable {F : FTy → Type} [FloatOps F]

/-- The distances: squared norms less twice the products, clamped, their roots. -/
abbrev opsA : List (HloOp τ sig (Elt F)) :=
  [ binary main_arg0 main_arg0 main_v0 (mulf : (⟨S16384x32, .f32⟩ : BufTy).Contents (Elt F) → (⟨S16384x32, .f32⟩ : BufTy).Contents (Elt F) → (⟨S16384x32, .f32⟩ : BufTy).Contents (Elt F)),
    nullary main_cst (constant S_ .f32 0x00000000#32),
    binary main_v0 main_cst main_v1 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    binary main_arg1 main_arg1 main_v3 (mulf : (⟨S8192x32, .f32⟩ : BufTy).Contents (Elt F) → (⟨S8192x32, .f32⟩ : BufTy).Contents (Elt F) → (⟨S8192x32, .f32⟩ : BufTy).Contents (Elt F)),
    nullary main_cst_0 (constant S_ .f32 0x00000000#32),
    binary main_v3 main_cst_0 main_v4 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v4 main_v5 (broadcastInDim S1x8192 ![1] bcast_S8192_S1x8192_1 : (⟨S8192, .f32⟩ : BufTy).Contents (Elt F) → (⟨S1x8192, .f32⟩ : BufTy).Contents (Elt F)),
    unary main_v2 main_v6 (broadcastInDim S16384x8192 ![0, 1] bcast_S16384x1_S16384x8192_0_1 : (⟨S16384x1, .f32⟩ : BufTy).Contents (Elt F) → (⟨S16384x8192, .f32⟩ : BufTy).Contents (Elt F)),
    unary main_v5 main_v7 (broadcastInDim S16384x8192 ![0, 1] bcast_S1x8192_S16384x8192_0_1 : (⟨S1x8192, .f32⟩ : BufTy).Contents (Elt F) → (⟨S16384x8192, .f32⟩ : BufTy).Contents (Elt F)),
    binary main_v6 main_v7 main_v8 (addf : (⟨S16384x8192, .f32⟩ : BufTy).Contents (Elt F) → (⟨S16384x8192, .f32⟩ : BufTy).Contents (Elt F) → (⟨S16384x8192, .f32⟩ : BufTy).Contents (Elt F)),
    unary main_arg1 main_v9 ((transpose S32x8192 [1, 0] · transposes_S8192x32_S32x8192_1_0) : (⟨S8192x32, .f32⟩ : BufTy).Contents (Elt F) → (⟨S32x8192, .f32⟩ : BufTy).Contents (Elt F)),
    binary main_arg0 main_v9 main_v10 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
    nullary main_cst_1 (constant S_ .f32 0x40000000#32),
    unary main_cst_1 main_v11 (broadcastInDim S16384x8192 ![] bcast_S_S16384x8192 : (⟨S_, .f32⟩ : BufTy).Contents (Elt F) → (⟨S16384x8192, .f32⟩ : BufTy).Contents (Elt F)),
    binary main_v11 main_v10 main_v12 (mulf : (⟨S16384x8192, .f32⟩ : BufTy).Contents (Elt F) → (⟨S16384x8192, .f32⟩ : BufTy).Contents (Elt F) → (⟨S16384x8192, .f32⟩ : BufTy).Contents (Elt F)),
    binary main_v8 main_v12 main_v13 (subf : (⟨S16384x8192, .f32⟩ : BufTy).Contents (Elt F) → (⟨S16384x8192, .f32⟩ : BufTy).Contents (Elt F) → (⟨S16384x8192, .f32⟩ : BufTy).Contents (Elt F)),
    nullary main_cst_2 (constant S_ .f32 0x00000000#32),
    unary main_cst_2 main_v14 (broadcastInDim S16384x8192 ![] bcast_S_S16384x8192 : (⟨S_, .f32⟩ : BufTy).Contents (Elt F) → (⟨S16384x8192, .f32⟩ : BufTy).Contents (Elt F)),
    binary main_v13 main_v14 main_v15 (maximumf : (⟨S16384x8192, .f32⟩ : BufTy).Contents (Elt F) → (⟨S16384x8192, .f32⟩ : BufTy).Contents (Elt F) → (⟨S16384x8192, .f32⟩ : BufTy).Contents (Elt F)),
    unary main_v15 main_v16 (Host.sqrt : (⟨S16384x8192, .f32⟩ : BufTy).Contents (Elt F) → (⟨S16384x8192, .f32⟩ : BufTy).Contents (Elt F)) ]

/-- The first least columns, and the codebook rows they name. -/
abbrev opsB : List (HloOp τ sig (Elt F)) :=
  [ TRef.nullary (TRef.of (T := ⟨S16384x8192, .i32⟩) main_call0_v0) (iotaInDim S16384x8192 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x8192, .f32⟩) main_v16) (TRef.of (T := ⟨S16384x8192, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x8192_S16384_d1 h_S_ j).1),
    TRef.quaternary (TRef.of (T := ⟨S16384x8192, .f32⟩) main_v16) (TRef.of (T := ⟨S16384x8192, .i32⟩) main_call0_v0) (TRef.of (T := ⟨S_, .f32⟩) main_call0_cst) (TRef.of (T := ⟨S_, .i32⟩) main_call0_c) (TRef.of (T := ⟨S16384, .i32⟩) main_v17) (fun x y u v j => (Host.argReduce reducer_argmin_f32_i32 x y u v reducesTo_S16384x8192_S16384_d1 h_S_ j).2),
    TRef.nullary (TRef.of (T := ⟨S_, .i32⟩) main_call1_c) (constantI S_ 32 0#32),
    TRef.unary (TRef.of (T := ⟨S_, .i32⟩) main_call1_c) (TRef.of (T := ⟨S16384, .i32⟩) main_call1_v0) (broadcastInDim S16384 ![] bcast_S_S16384),
    TRef.binary (TRef.of (T := ⟨S16384, .i32⟩) main_v17) (TRef.of (T := ⟨S16384, .i32⟩) main_call1_v0) (TRef.of (T := ⟨S16384, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S16384, .i32⟩) main_call1_v2) (broadcastInDim S16384 ![] bcast_S_S16384),
    TRef.binary (TRef.of (T := ⟨S16384, .i32⟩) main_v17) (TRef.of (T := ⟨S16384, .i32⟩) main_call1_v2) (TRef.of (T := ⟨S16384, .i32⟩) main_call1_v3) addi,
    TRef.ternary (TRef.of (T := ⟨S16384, .i1⟩) main_call1_v1) (TRef.of (T := ⟨S16384, .i32⟩) main_call1_v3) (TRef.of (T := ⟨S16384, .i32⟩) main_v17) (TRef.of (T := ⟨S16384, .i32⟩) main_call1_v4) select,
    TRef.unary (TRef.of (T := ⟨S16384, .i32⟩) main_call1_v4) (TRef.of (T := ⟨S16384x1, .i32⟩) main_call1_v5) (broadcastInDim S16384x1 ![0] bcast_S16384_S16384x1_0),
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S16384x1, .i32⟩) main_call1_v6) (broadcastInDim S16384x1 ![] bcast_S_S16384x1),
    TRef.binary (TRef.of (T := ⟨S16384x1, .i32⟩) main_call1_v5) (TRef.of (T := ⟨S16384x1, .i32⟩) main_call1_v6) (TRef.of (T := ⟨S16384x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S16384x1, .i32⟩) main_call1_v9) (broadcastInDim S16384x1 ![0, 1] bcast_S1x1_S16384x1_0_1),
    TRef.binary (TRef.of (T := ⟨S16384x1, .i32⟩) main_call1_v5) (TRef.of (T := ⟨S16384x1, .i32⟩) main_call1_v9) (TRef.of (T := ⟨S16384x1, .i1⟩) main_call1_v10) (cmpi .sle),
    TRef.binary (TRef.of (T := ⟨S16384x1, .i1⟩) main_call1_v7) (TRef.of (T := ⟨S16384x1, .i1⟩) main_call1_v10) (TRef.of (T := ⟨S16384x1, .i1⟩) main_call1_v11) andi,
    TRef.nullary (TRef.of (T := ⟨S_, .i1⟩) main_call1_c_3) (constantI S_ 1 1#1),
    TRef.binary (TRef.of (T := ⟨S16384x1, .i1⟩) main_call1_v11) (TRef.of (T := ⟨S_, .i1⟩) main_call1_c_3) (TRef.of (T := ⟨S16384, .i1⟩) main_call1_v12) (fun x v => Host.reduce IntOp.andi x v reducesTo_S16384x1_S16384_d1 h_S_),
    TRef.binary (TRef.of (T := ⟨S8192x32, .f32⟩) main_arg1) (TRef.of (T := ⟨S16384x1, .i32⟩) main_call1_v5) (TRef.of (T := ⟨S16384x32, .f32⟩) main_call1_v13) (fun x i => Host.gather gather_S8192x32_S16384x1_S16384x32_1_0_n_n_0_1_132 x i),
    TRef.unary (TRef.of (T := ⟨S16384, .i1⟩) main_call1_v12) (TRef.of (T := ⟨S16384x32, .i1⟩) main_call1_v14) (broadcastInDim S16384x32 ![0] bcast_S16384_S16384x32_0),
    TRef.nullary (TRef.of (T := ⟨S_, .f32⟩) main_call1_cst) (constant S_ .f32 0x7FC00000#32),
    TRef.unary (TRef.of (T := ⟨S_, .f32⟩) main_call1_cst) (TRef.of (T := ⟨S16384x32, .f32⟩) main_call1_v15) (broadcastInDim S16384x32 ![] bcast_S_S16384x32),
    TRef.ternary (TRef.of (T := ⟨S16384x32, .i1⟩) main_call1_v14) (TRef.of (T := ⟨S16384x32, .f32⟩) main_call1_v13) (TRef.of (T := ⟨S16384x32, .f32⟩) main_call1_v15) (TRef.of (T := ⟨S16384x32, .f32⟩) main_v18) select ]

/-- The losses and the straight-through sum. -/
abbrev opsC : List (HloOp τ sig (Elt F)) :=
  [ binary main_v18 main_arg0 main_v19 (subf : (⟨S16384x32, .f32⟩ : BufTy).Contents (Elt F) → (⟨S16384x32, .f32⟩ : BufTy).Contents (Elt F) → (⟨S16384x32, .f32⟩ : BufTy).Contents (Elt F)),
    binary main_v19 main_v19 main_v20 (mulf : (⟨S16384x32, .f32⟩ : BufTy).Contents (Elt F) → (⟨S16384x32, .f32⟩ : BufTy).Contents (Elt F) → (⟨S16384x32, .f32⟩ : BufTy).Contents (Elt F)),
    nullary main_cst_3 (constant S_ .f32 0x00000000#32),
    binary main_v20 main_cst_3 main_v21 ((fun x v => Host.reduceAdd x v reducesTo_S16384x32_S_d0_1 h_S_) : (⟨S16384x32, .f32⟩ : BufTy).Contents (Elt F) → (⟨S_, .f32⟩ : BufTy).Contents (Elt F) → (⟨S_, .f32⟩ : BufTy).Contents (Elt F)),
    nullary main_cst_4 (constant S_ .f32 0x49000000#32),
    binary main_v21 main_cst_4 main_v22 (Host.divf : (⟨S_, .f32⟩ : BufTy).Contents (Elt F) → (⟨S_, .f32⟩ : BufTy).Contents (Elt F) → (⟨S_, .f32⟩ : BufTy).Contents (Elt F)),
    binary main_v18 main_arg0 main_v23 (subf : (⟨S16384x32, .f32⟩ : BufTy).Contents (Elt F) → (⟨S16384x32, .f32⟩ : BufTy).Contents (Elt F) → (⟨S16384x32, .f32⟩ : BufTy).Contents (Elt F)),
    binary main_v23 main_v23 main_v24 (mulf : (⟨S16384x32, .f32⟩ : BufTy).Contents (Elt F) → (⟨S16384x32, .f32⟩ : BufTy).Contents (Elt F) → (⟨S16384x32, .f32⟩ : BufTy).Contents (Elt F)),
    nullary main_cst_5 (constant S_ .f32 0x00000000#32),
    binary main_v24 main_cst_5 main_v25 ((fun x v => Host.reduceAdd x v reducesTo_S16384x32_S_d0_1 h_S_) : (⟨S16384x32, .f32⟩ : BufTy).Contents (Elt F) → (⟨S_, .f32⟩ : BufTy).Contents (Elt F) → (⟨S_, .f32⟩ : BufTy).Contents (Elt F)),
    nullary main_cst_6 (constant S_ .f32 0x49000000#32),
    binary main_v25 main_cst_6 main_v26 (Host.divf : (⟨S_, .f32⟩ : BufTy).Contents (Elt F) → (⟨S_, .f32⟩ : BufTy).Contents (Elt F) → (⟨S_, .f32⟩ : BufTy).Contents (Elt F)),
    nullary main_cst_7 (constant S_ .f32 0x3E800000#32),
    binary main_cst_7 main_v26 main_v27 (mulf : (⟨S_, .f32⟩ : BufTy).Contents (Elt F) → (⟨S_, .f32⟩ : BufTy).Contents (Elt F) → (⟨S_, .f32⟩ : BufTy).Contents (Elt F)),
    binary main_v22 main_v27 main_v28 (addf : (⟨S_, .f32⟩ : BufTy).Contents (Elt F) → (⟨S_, .f32⟩ : BufTy).Contents (Elt F) → (⟨S_, .f32⟩ : BufTy).Contents (Elt F)),
    binary main_v18 main_arg0 main_v29 (subf : (⟨S16384x32, .f32⟩ : BufTy).Contents (Elt F) → (⟨S16384x32, .f32⟩ : BufTy).Contents (Elt F) → (⟨S16384x32, .f32⟩ : BufTy).Contents (Elt F)),
    binary main_arg0 main_v29 main_v30 (addf : (⟨S16384x32, .f32⟩ : BufTy).Contents (Elt F) → (⟨S16384x32, .f32⟩ : BufTy).Contents (Elt F) → (⟨S16384x32, .f32⟩ : BufTy).Contents (Elt F)) ]

/-- All of them. -/
abbrev ops : List (HloOp τ sig (Elt F)) := opsA ++ (opsB ++ opsC)

theorem main_eq (c : Dev nD) : main (F := F) c = seq ops := rfl
theorem no_scoped : (Finset.univ.filter fun b : Ref sig .tc => b.isScoped) = ∅ := by decide
theorem no_sems : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub ..,
  unary_bufs_sub .., unary_bufs_sub .., unary_bufs_sub .., binary_bufs_sub .., unary_bufs_sub .., binary_bufs_sub .., nullary_bufs_sub ..,
  unary_bufs_sub .., binary_bufs_sub .., binary_bufs_sub .., nullary_bufs_sub .., unary_bufs_sub .., binary_bufs_sub .., unary_bufs_sub ..,
  nullary_bufs_sub .., nullary_bufs_sub .., nullary_bufs_sub .., quaternary_bufs_sub .., quaternary_bufs_sub .., nullary_bufs_sub ..,
  unary_bufs_sub .., binary_bufs_sub .., nullary_bufs_sub .., unary_bufs_sub .., binary_bufs_sub .., ternary_bufs_sub .., unary_bufs_sub ..,
  nullary_bufs_sub .., nullary_bufs_sub .., unary_bufs_sub .., binary_bufs_sub .., unary_bufs_sub .., unary_bufs_sub .., binary_bufs_sub ..,
  binary_bufs_sub .., nullary_bufs_sub .., binary_bufs_sub .., binary_bufs_sub .., unary_bufs_sub .., nullary_bufs_sub .., unary_bufs_sub ..,
  ternary_bufs_sub .., binary_bufs_sub .., binary_bufs_sub .., nullary_bufs_sub .., binary_bufs_sub .., nullary_bufs_sub ..,
  binary_bufs_sub .., binary_bufs_sub .., binary_bufs_sub .., nullary_bufs_sub .., binary_bufs_sub .., nullary_bufs_sub .., binary_bufs_sub ..,
  nullary_bufs_sub .., binary_bufs_sub .., binary_bufs_sub .., binary_bufs_sub .., binary_bufs_sub ..⟩

variable (m : (ℓ : Loc nD τ sig) → Buf (Elt F) ℓ) (ρ : Dev nD → PrngReg)

/-- A device's buffers after the distances, after the rows, at the end. -/
def U₁ (c : Dev nD) : Valuation τ sig (Elt F) := after opsA fun b => m (c, b)
def U₂ (c : Dev nD) : Valuation τ sig (Elt F) := after opsB (U₁ m c)
def U₃ (c : Dev nD) : Valuation τ sig (Elt F) := after opsC (U₂ m c)

/-- Every execution of the reference ends with each buffer as the operations leave it, and every semaphore zero. -/
theorem run_main : θ_run defs (onTc (τ := τ) (main (F := F))) ⟨m, fun _ => 0, ρ⟩
    (fun r => (∀ (c : Dev nD) (b : Ref sig .tc), r.2.mem ((c.tc : Thread nD τ).loc b) = U₃ m c (Proc.devRef .tc b)) ∧ r.2.sem = fun _ => 0) :=
  (θ_run defs _ _).mono (fun r h => ⟨fun c b => (h c b).trans rfl,
      Idealize.ShloMosaic.sem_eq_zero_of_no_sems (by decide) r.2⟩)
    (run_seq no_scoped no_sems defs main (fun _ => ops) main_eq (fun _ => ops_sub) m ρ)

end Cert.Proof.Reference
-- ==== Proof.Reference.Value.lean ====
/-
  The reference's results as terms of its arguments: the distances, the first least columns, the codebook rows they name,
  the losses and the straight-through sum.
-/
module

public import proofs.«01_k».proof.Proof.Reference.Run
public import proofs.«01_k».proof.Proof.Rows

@[expose] public section

set_option maxRecDepth 16384

noncomputable section

namespace Cert.Proof.Reference

open Cert.ReferenceIdeal Cert.ReferenceIdeal.Gen Cert.Proof.Rows

open Idealize.ShloMosaic Idealize.ShloMosaic.TcCoe Idealize.SL.Sem Idealize.ShloMosaic.StableHlo

variable {F : FTy → Type} [FloatOps F]

/-- The distances of the rows of `x` to the rows of `w`. -/
def dists (x : FVec F S16384x32 .f32) (w : FVec F S8192x32 .f32) : FVec F S16384x8192 .f32 :=
  Host.sqrt (maximumf
    (subf
      (addf
        (broadcastInDim S16384x8192 ![0, 1] bcast_S16384x1_S16384x8192_0_1 (broadcastInDim S16384x1 ![0] bcast_S16384_S16384x1_0
          (Host.reduceAdd (mulf x x) (constant S_ .f32 0x00000000#32) reducesTo_S16384x32_S16384_d1 h_S_)))
        (broadcastInDim S16384x8192 ![0, 1] bcast_S1x8192_S16384x8192_0_1 (broadcastInDim S1x8192 ![1] bcast_S8192_S1x8192_1
          (Host.reduceAdd (mulf w w) (constant S_ .f32 0x00000000#32) reducesTo_S8192x32_S8192_d1 h_S_))))
      (mulf (broadcastInDim S16384x8192 ![] bcast_S_S16384x8192 (constant S_ .f32 0x40000000#32))
        (Host.dotGeneral dot_S16384x32_S32x8192_S16384x8192_1_0_0_1_n_n none x
          (transpose S32x8192 [1, 0] w transposes_S8192x32_S32x8192_1_0))))
    (broadcastInDim S16384x8192 ![] bcast_S_S16384x8192 (constant S_ .f32 0x00000000#32)))

/-- The first least entry of each row, with its column. -/
def pairs (D : FVec F S16384x8192 .f32) : S16384.Idx → F .f32 × BitVec 32 :=
  Host.argReduce reducer_argmin_f32_i32 D (iotaInDim S16384x8192 32 1) (constant S_ .f32 0x7F800000#32) (constantI S_ 32 0#32)
    reducesTo_S16384x8192_S16384_d1 h_S_

/-- The first least column of each row. -/
def firsts (D : FVec F S16384x8192 .f32) : IVec S16384 32 := fun j => (pairs D j).2

/-- The mean square of a difference. -/
def meanSq (e : FVec F S16384x32 .f32) : FVec F S_ .f32 :=
  Host.divf (Host.reduceAdd (mulf e e) (constant S_ .f32 0x00000000#32) reducesTo_S16384x32_S_d0_1 h_S_) (constant S_ .f32 0x49000000#32)

variable (m : (ℓ : Loc nD τ sig) → Buf (Elt F) ℓ) (c : Dev nD)

/-- The arguments. -/
abbrev xOf : FVec F S16384x32 .f32 := m ((c.tc : Thread nD τ).loc main_arg0)
abbrev wOf : FVec F S8192x32 .f32 := m ((c.tc : Thread nD τ).loc main_arg1)

theorem U₁_v16 : (U₁ m c (Proc.devRef .tc main_v16) : FVec F S16384x8192 .f32) = dists (xOf m c) (wOf m c) := by
  unfold U₁ dists
  simp only [opsA]
  after_results <;> rfl
theorem U₁_arg0 : U₁ m c (Proc.devRef .tc main_arg0) = xOf m c := by
  unfold U₁
  simp only [opsA]
  after_results <;> rfl
theorem U₁_arg1 : U₁ m c (Proc.devRef .tc main_arg1) = wOf m c := by
  unfold U₁
  simp only [opsA]
  after_results <;> rfl

theorem U₂_v17 : (U₂ m c (Proc.devRef .tc main_v17) : IVec S16384 32) = firsts (dists (xOf m c) (wOf m c)) := by
  rw [← U₁_v16]
  unfold U₂ firsts pairs
  simp only [opsB, TRef.binary, TRef.nullary, TRef.ternary, TRef.unary, TRef.quaternary, TRef.toBuf, TRef.ofBuf, cast_eq]
  after_results <;> rfl
theorem U₂_arg0 : U₂ m c (Proc.devRef .tc main_arg0) = xOf m c := by
  rw [← U₁_arg0]
  unfold U₂
  simp only [opsB, TRef.binary, TRef.nullary, TRef.ternary, TRef.unary, TRef.quaternary, TRef.toBuf, TRef.ofBuf, cast_eq]
  after_results <;> rfl
theorem U₂_arg1 : U₂ m c (Proc.devRef .tc main_arg1) = wOf m c := by
  rw [← U₁_arg1]
  unfold U₂
  simp only [opsB, TRef.binary, TRef.nullary, TRef.ternary, TRef.unary, TRef.quaternary, TRef.toBuf, TRef.ofBuf, cast_eq]
  after_results <;> rfl

set_option maxHeartbeats 2000000 in
/-- The rows taken, the indices being in range. -/
theorem U₂_v18 (hin : ∀ j, (firsts (dists (xOf m c) (wOf m c)) j).toNat < 8192) :
    (U₂ m c (Proc.devRef .tc main_v18) : FVec F S16384x32 .f32) = rowsOf (wOf m c) (firsts (dists (xOf m c) (wOf m c))) := by
  have e := take_eq (F := F) (wOf m c) (firsts (dists (xOf m c) (wOf m c))) hin
    bcast_S_S16384 bcast_S16384_S16384x1_0 bcast_S_S16384x1 bcast_S1x1_S16384x1_0_1
    bcast_S1_S1x1_1 reducesTo_S16384x1_S16384_d1 h_S_ bcast_S16384_S16384x32_0
    bcast_S_S16384x32 gather_S8192x32_S16384x1_S16384x32_1_0_n_n_0_1_132_wf (constant S_ .f32 0x7FC00000#32)
  refine Eq.trans ?_ e
  rw [← U₁_v16, ← U₁_arg1]
  unfold U₂ firsts pairs
  simp only [opsB, TRef.binary, TRef.nullary, TRef.ternary, TRef.unary, TRef.quaternary, TRef.toBuf, TRef.ofBuf, cast_eq]
  after_results <;> rfl

theorem U₃_v17 : (U₃ m c (Proc.devRef .tc main_v17) : IVec S16384 32) = firsts (dists (xOf m c) (wOf m c)) := by
  rw [← U₂_v17]
  unfold U₃
  simp only [opsC]
  after_results <;> rfl
theorem U₃_arg0 : U₃ m c (Proc.devRef .tc main_arg0) = xOf m c := by
  rw [← U₂_arg0]
  unfold U₃
  simp only [opsC]
  after_results <;> rfl
theorem U₃_arg1 : U₃ m c (Proc.devRef .tc main_arg1) = wOf m c := by
  rw [← U₂_arg1]
  unfold U₃
  simp only [opsC]
  after_results <;> rfl
theorem U₃_v30 : (U₃ m c (Proc.devRef .tc main_v30) : FVec F S16384x32 .f32)
    = addf (xOf m c) (subf (U₂ m c (Proc.devRef .tc main_v18) : FVec F S16384x32 .f32) (xOf m c)) := by
  rw [← U₂_arg0]
  unfold U₃
  simp only [opsC]
  after_results <;> rfl
theorem U₃_v28 : (U₃ m c (Proc.devRef .tc main_v28) : FVec F S_ .f32)
    = addf (meanSq (subf (U₂ m c (Proc.devRef .tc main_v18) : FVec F S16384x32 .f32) (xOf m c)))
      (mulf (constant S_ .f32 0x3E800000#32) (meanSq (subf (U₂ m c (Proc.devRef .tc main_v18) : FVec F S16384x32 .f32) (xOf m c)))) := by
  rw [← U₂_arg0]
  unfold U₃ meanSq
  simp only [opsC]
  after_results <;> rfl

end Cert.Proof.Reference
-- ==== Proof.Reference.Ideal.lean ====
/-
  The reference's distances and indices over the extended reals, at an index.
-/
module

public import proofs.«01_k».proof.Proof.Reference.Value
public import proofs.«01_k».proof.Proof.Distance
public import proofs.«01_k».proof.Proof.First
public import Idealize.ShloMosaic.Lib.Pointwise
public import Idealize.ShloMosaic.PureOps.Ideal.Laws

@[expose] public section

set_option maxRecDepth 16384

noncomputable section

namespace Cert.Proof.Reference

open Cert.ReferenceIdeal Cert.ReferenceIdeal.Gen Cert.Proof.First Cert.Proof.Distance

open Idealize.ShloMosaic
open scoped BigOperators

/-- The distances are the problem's. -/
theorem dists_at (x : FVec Ideal S16384x32 .f32) (w : FVec Ideal S8192x32 .f32) (n : Fin 16384) (q : Fin 8192) :
    dists x w (ix2 n q) = far (fun n k => x (ix2 n k)) (fun q k => w (ix2 q k)) n q := by
  unfold dists
  pointwise
  rw [two_word]
  rfl

/-- The reducer keeps the smaller distance, and of equal ones the smaller index. -/
theorem reducer_eq (a b : Ideal .f32 × BitVec 32) :
    reducer_argmin_f32_i32 a b = if a.1 < b.1 ∨ (a.1 = b.1 ∧ a.2.toInt < b.2.toInt) then a else b := by
  obtain ⟨a1, a2⟩ := a
  obtain ⟨b1, b2⟩ := b
  simp only [reducer_argmin_f32_i32, Ideal.cmpf_def, Ideal.cmp, IntOp.cmpi, IntOp.ori, IntOp.andi, Scalar.select]
  by_cases h1 : a1 < b1 <;> by_cases h2 : a1 = b1 <;> by_cases h3 : a2.toInt < b2.toInt <;> simp [h1, h2, h3, BitVec.slt_eq_decide]

/-- The row an entry reduces into. -/
theorem drop_row (a : Fin 16384) (b : Fin 8192) : reducesTo_S16384x8192_S16384_d1.drop (ix2 a b) = ix1 a := by
  funext e
  match e with
  | ⟨0, _⟩ => exact Fin.ext (Shape.ReducesTo.drop_apply_val_of_eq reducesTo_S16384x8192_S16384_d1 (ix2 a b) 0 0)

/-- A row's pairs of distance and column. -/
theorem mem_fiber (D : FVec Ideal S16384x8192 .f32) (n : Fin 16384) (p : Ideal .f32 × BitVec 32) :
    p ∈ Host.argReduceFiber D (iotaInDim S16384x8192 32 1) reducesTo_S16384x8192_S16384_d1 (ix1 n)
      ↔ ∃ q : Fin 8192, p = (D (ix2 n q), BitVec.ofNat 32 q.val) := by
  unfold Host.argReduceFiber
  simp only [List.mem_map, List.mem_filter, List.mem_finRange, true_and, decide_eq_true_eq]
  constructor
  · rintro ⟨i, h, rfl⟩
    generalize S16384x8192.rowMajor.symm i = j at h ⊢
    idx_vars j
    rw [drop_row] at h
    have : j0 = n := congrFun h 0
    subst this
    exact ⟨j1, rfl⟩
  · rintro ⟨q, rfl⟩
    exact ⟨S16384x8192.rowMajor (ix2 n q), by rw [Equiv.symm_apply_apply]; exact drop_row n q, by rw [Equiv.symm_apply_apply]; rfl⟩

theorem top_word : (constant S_ .f32 0x7F800000#32 (Shape.Idx.first h_S_) : Ideal .f32) = (⊤ : EReal) := by
  show (Ideal.ofBits .f32 0x7F800000#32 : EReal) = ⊤
  simp [Ideal.ofBits, Ideal.ieee]

/-- The entry of a row at a column number. -/
def entry (D : FVec Ideal S16384x8192 .f32) (n : Fin 16384) (c : ℕ) : EReal := D (ix2 n ⟨c % 8192, Nat.mod_lt _ (by decide)⟩)

theorem entry_lt (D : FVec Ideal S16384x8192 .f32) (n : Fin 16384) (q : Fin 8192) : entry D n q.val = D (ix2 n q) :=
  congrArg (fun q' => D (ix2 n q')) (Fin.ext (Nat.mod_eq_of_lt q.isLt))

/-- The fold over such pairs ends at the word of the first least column. -/
theorem pick (D : FVec Ideal S16384x8192 .f32) (n : Fin 16384) (L : List (Ideal .f32 × BitVec 32))
    (hL : ∀ p, p ∈ L ↔ ∃ q : Fin 8192, p = (D (ix2 n q), BitVec.ofNat 32 q.val)) :
    ∃ i M, (L.foldl reducer_argmin_f32_i32 ((⊤ : EReal), BitVec.ofNat 32 0)).2 = BitVec.ofNat 32 i ∧ IsFirst (entry D n) 8192 i M :=
  foldl_first (α := EReal) (n := 8192) (by decide) (entry D n) BitVec.toInt (BitVec.ofNat 32)
    (fun c hc => by rw [BitVec.toInt_eq_toNat_cond, BitVec.toNat_ofNat, Nat.mod_eq_of_lt (by omega), if_pos (by omega)]) reducer_eq
    L (fun p => (hL p).trans ⟨fun ⟨q, h⟩ => ⟨q.val, q.isLt, h.trans (by rw [entry_lt D n q])⟩,
      fun ⟨c, hc, h⟩ => ⟨⟨c, hc⟩, h.trans (by rw [← entry_lt D n ⟨c, hc⟩])⟩⟩)

/-- The reduction is that fold. -/
theorem pairs_fold (D : FVec Ideal S16384x8192 .f32) (n : Fin 16384) :
    pairs D (ix1 n) = (Host.argReduceFiber D (iotaInDim S16384x8192 32 1) reducesTo_S16384x8192_S16384_d1 (ix1 n)).foldl
      reducer_argmin_f32_i32 ((⊤ : EReal), BitVec.ofNat 32 0) :=
  ((congrFun (Ideal.argReduce_eq_reduce2 _ _ _ _ _ _ _) (ix1 n)).trans (Host.reduce2_eq_foldl_fiber _ _ _ _ _ _ _ _)).trans
    (congrArg (fun s : Ideal .f32 × BitVec 32 =>
      (Host.argReduceFiber D (iotaInDim S16384x8192 32 1) reducesTo_S16384x8192_S16384_d1 (ix1 n)).foldl reducer_argmin_f32_i32 s)
      (Prod.ext top_word rfl))

theorem firsts_eq (D : FVec Ideal S16384x8192 .f32) : firsts D = fun j => (pairs D j).2 := by
  delta firsts
  exact Eq.refl _

/-- The second components read at an index. -/
theorem snd_at {ι α β : Type} {f : ι → α × β} {g : ι → β} (h : g = fun j => (f j).2) (j : ι) {p : α × β} (e : f j = p) : g j = p.2 := by
  subst h
  rw [← e]

/-- A row's index is the word of the first least column. -/
theorem firsts_first (D : FVec Ideal S16384x8192 .f32) (n : Fin 16384) :
    ∃ i M, firsts D (ix1 n) = BitVec.ofNat 32 i ∧ IsFirst (entry D n) 8192 i M := by
  have e := snd_at (firsts_eq D) (ix1 n) (pairs_fold D n)
  obtain ⟨i, M, h1, h2⟩ := pick D n _ (mem_fiber D n)
  exact ⟨i, M, e.trans h1, h2⟩

end Cert.Proof.Reference
-- ==== Proof.Loss.lean ====
/-
  The losses over the extended reals, for real rows and codebook: the square of a distance is the squared error, and five
  quarters of the mean squared error are the mean plus a quarter of it.
-/
module

public import proofs.«01_k».proof.Proof.Distance

@[expose] public section

noncomputable section

namespace Cert.Proof.Distance

open Idealize.ShloMosaic
open scoped BigOperators

/-- The squared error of a row against a codebook row. -/
def sqErr (x : Data) (w : Book) (n : Fin 16384) (q : Fin 8192) : EReal := ∑ k, (w q k - x n k) * (w q k - x n k)

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- An array of real entries. -/
def AllReal {ι κ : Type} (x : ι → κ → EReal) : Prop := ∀ i k, ∃ r : ℝ, x i k = r

/-- The squared error is a real. -/
theorem sqErr_real {x : Data} {w : Book} (hx : AllReal x) (hw : AllReal w) (n : Fin 16384) (q : Fin 8192) : ∃ r : ℝ, sqErr x w n q = r := by
  choose f hf using hx
  choose g hg using hw
  refine ⟨∑ k, (g q k - f n k) * (g q k - f n k), ?_⟩
  simp only [sqErr, hf, hg, ← EReal.coe_sub, ← EReal.coe_mul, ← coe_sum]

/-- The squared distance is the squared error. -/
theorem far_sq {x : Data} {w : Book} (hx : AllReal x) (hw : AllReal w) (n : Fin 16384) (q : Fin 8192) :
    far x w n q * far x w n q = sqErr x w n q := by
  choose f hf using hx
  choose g hg using hw
  have hs : sq x w n q = ((∑ k, (g q k - f n k) * (g q k - f n k) : ℝ) : EReal) := by
    have h2 : (2 : EReal) = ((2 : ℝ) : EReal) := rfl
    simp only [sq, hf, hg, h2, ← EReal.coe_mul, ← coe_sum, ← EReal.coe_add, ← EReal.coe_sub]
    congr 1
    rw [Finset.mul_sum, ← Finset.sum_add_distrib, ← Finset.sum_sub_distrib]
    exact Finset.sum_congr rfl fun k _ => by ring
  have h0 : (0 : ℝ) ≤ ∑ k, (g q k - f n k) * (g q k - f n k) := Finset.sum_nonneg fun k _ => mul_self_nonneg _
  have he : sqErr x w n q = ((∑ k, (g q k - f n k) * (g q k - f n k) : ℝ) : EReal) := by
    simp only [sqErr, hf, hg, ← EReal.coe_sub, ← EReal.coe_mul, ← coe_sum]
  rw [he, far, hs]
  generalize (∑ k, (g q k - f n k) * (g q k - f n k) : ℝ) = s at h0
  rw [max_eq_left (by exact_mod_cast h0)]
  show (if s < 0 then (⊥ : EReal) else (Real.sqrt s : EReal)) * (if s < 0 then (⊥ : EReal) else (Real.sqrt s : EReal)) = s
  rw [if_neg (not_lt.2 h0), ← EReal.coe_mul, Real.mul_self_sqrt h0]

/-- The patterns of 1.25, of 0.25 and of 524288. -/
theorem fiveQuarters_word : (Ideal.ofBits .f32 0x3FA00000#32 : EReal) = ((5 / 4 : ℝ) : EReal) := by
  simp [Ideal.ofBits, Ideal.ieee]
  rw [← EReal.coe_mul]
  congr 1
  norm_num
theorem quarter_word : (Ideal.ofBits .f32 0x3E800000#32 : EReal) = ((1 / 4 : ℝ) : EReal) := by
  simp [Ideal.ofBits, Ideal.ieee]
  rw [← EReal.coe_mul]
  congr 1
  norm_num
theorem count_word : (Ideal.ofBits .f32 0x49000000#32 : EReal) = ((524288 : ℝ) : EReal) := by
  simp [Ideal.ofBits, Ideal.ieee]
  rw [← EReal.coe_mul]
  congr 1
  norm_num

/-- Five quarters of a real sum over the count are the mean plus a quarter of it. -/
theorem loss_real (s : ℝ) :
    Ideal.div (Ideal.ofBits .f32 0x3FA00000#32 * (s : EReal)) (Ideal.ofBits .f32 0x49000000#32)
      = Ideal.div s (Ideal.ofBits .f32 0x49000000#32) + Ideal.ofBits .f32 0x3E800000#32 * Ideal.div s (Ideal.ofBits .f32 0x49000000#32) := by
  rw [fiveQuarters_word, quarter_word, count_word]
  have h : ((524288 : ℝ) : EReal) ≠ 0 := by exact_mod_cast (by norm_num : (524288 : ℝ) ≠ 0)
  simp only [Ideal.div, if_neg h, ← EReal.coe_inv, ← EReal.coe_mul, ← EReal.coe_add]
  congr 1
  ring

end Cert.Proof.Distance
-- ==== Proof.Finite.lean ====
/-
  What the finiteness precondition says over the extended reals: every entry of both arrays is a real.
-/
module

public import proofs.«01_k».proof.Proof.Gen.Pre_finite
public import Idealize.ShloMosaic.Lib.ReduceAll
public import Idealize.ShloMosaic.PureOps.Ideal.Laws

@[expose] public section

noncomputable section

namespace Cert.Proof.Finite

open Cert.Pre_finite Cert.Pre_finite.Gen
open Idealize.ShloMosaic

/-- A value whose absolute value compares below the pattern of infinity is a real. -/
theorem real_of_lt (a : EReal) (h : Ideal.cmp .olt (max a (-a)) (Ideal.ofBits .f32 0x7F800000#32) = 1#1) : ∃ r : ℝ, a = r := by
  have ht : (Ideal.ofBits .f32 0x7F800000#32 : EReal) = ⊤ := by simp [Ideal.ofBits, Ideal.ieee]
  rw [ht] at h
  induction a using EReal.rec with
  | bot => simp [Ideal.cmp] at h
  | top => simp [Ideal.cmp] at h
  | coe r => exact ⟨r, rfl⟩

/-- The bits of a conjunction. -/
theorem both {a b : BitVec 1} (h : IntOp.andi a b = 1#1) : a = 1#1 ∧ b = 1#1 := by
  revert h
  unfold IntOp.andi
  revert a b
  decide

theorem real_of_pre (x : FVec Ideal S16384x32 .f32) (w : FVec Ideal S8192x32 .f32) (h : Cert.Pre_finite.fn (F := Ideal) x w = fun _ => 1#1) :
    (∀ i, ∃ r : ℝ, (x i : EReal) = r) ∧ ∀ i, ∃ r : ℝ, (w i : EReal) = r := by
  have hs : Subsingleton S_.Idx := ⟨fun a b => funext fun i => i.elim0⟩
  obtain ⟨h1, h2⟩ := both (congrFun h fun a => a.elim0)
  exact ⟨fun i => real_of_lt _ (Host.reduce_andi_all _ _ _ _ (fun a => a.elim0) h1 i),
    fun i => real_of_lt _ (Host.reduce_andi_all _ _ _ _ (fun a => a.elim0) h2 i)⟩

end Cert.Proof.Finite
-- ==== Proof.Whole.lean ====
/-
  The whole kernel against the reference over the extended reals: equal indices, equal straight-through rows, and, for real
  arguments, equal losses.
-/
module

public import proofs.«01_k».proof.Proof.Kernel.Value
public import proofs.«01_k».proof.Proof.Reference.Ideal
public import proofs.«01_k».proof.Proof.Gather.Claims
public import proofs.«01_k».proof.Proof.Loss
public import proofs.«01_k».proof.Proof.Finite

@[expose] public section

set_option maxRecDepth 16384

noncomputable section

namespace Cert.Proof.Whole

open Cert.Proof.First Cert.Proof.Distance Cert.Proof.Rows
open Cert.Proof.Kernel (ixOf tabOf sumArr dataOf bookOf low index_first sum_at)
open Cert.Proof.Reference (dists firsts meanSq entry firsts_first dists_at)
open Idealize.ShloMosaic Idealize.ShloMosaic.TcCoe Idealize.SL.Sem
open scoped BigOperators

variable (m : (ℓ : Loc KernelIdeal.nD KernelIdeal.τ KernelIdeal.sig) → Buf (Elt Ideal) ℓ) (d : Dev KernelIdeal.nD)

/-- The kernel's arguments. -/
abbrev X : FVec Ideal ⟨2, ![16384, 32]⟩ .f32 := Kernel.xOf m d
abbrev W : FVec Ideal ⟨2, ![8192, 32]⟩ .f32 := Kernel.wOf m d

/-- The reference's distances are the kernel's. -/
theorem entry_eq (n : Fin 16384) (c : ℕ) : entry (dists (X m d) (W m d)) n c = farSeq (dataOf m d) (bookOf m d) n c :=
  dists_at (X m d) (W m d) n ⟨c % 8192, Nat.mod_lt _ (by decide)⟩

/-- A row's index, on both sides, with its distance. -/
theorem index_both (n : Fin 16384) : ∃ q : Fin 8192, ixOf m d (ix1 n) = BitVec.ofNat 32 q.val
    ∧ firsts (dists (X m d) (W m d)) (ix1 n) = BitVec.ofNat 32 q.val ∧ low m d n = far (dataOf m d) (bookOf m d) n q := by
  obtain ⟨i, h1, h2⟩ := index_first m d n
  obtain ⟨i', M, h3, h4⟩ := firsts_first (dists (X m d) (W m d)) n
  obtain ⟨rfl, -⟩ := h2.unique (h4.congr fun c _ => entry_eq m d n c)
  refine ⟨⟨i, h2.lt⟩, h1, h3, h2.at_.symm.trans (congrArg (far (dataOf m d) (bookOf m d) n) (Fin.ext (Nat.mod_eq_of_lt h2.lt)))⟩

/-- The indices are the reference's. -/
theorem index_eq : ixOf m d = firsts (dists (X m d) (W m d)) := by
  funext j
  idx_vars j
  obtain ⟨q, h1, h2, -⟩ := index_both m d j0
  exact h1.trans h2.symm

/-- The word of a codebook row reads back as the row. -/
theorem word_lt (q : Fin 8192) : (BitVec.ofNat 32 q.val).toNat = q.val := by
  rw [BitVec.toNat_ofNat]; omega

/-- They are rows of the codebook. -/
theorem in_range : Kernel.InRange (ixOf m d) := by
  intro j
  idx_vars j
  obtain ⟨q, h1, -⟩ := index_both m d j0
  rw [h1, word_lt]
  exact q.isLt

/-- The rows gathered. -/
abbrev Q : FVec Ideal ⟨2, ![16384, 32]⟩ .f32 := rowsOf (W m d) (ixOf m d)

/-- A gathered row is the codebook row whose distance the kernel kept. -/
theorem rows_at (n : Fin 16384) : ∃ q : Fin 8192, (∀ k, Q m d (ix2 n k) = bookOf m d q k) ∧ low m d n = far (dataOf m d) (bookOf m d) n q := by
  obtain ⟨q, h1, -, h3⟩ := index_both m d n
  refine ⟨q, fun k => ?_, h3⟩
  have e : (⟨(ixOf m d (ix1 n)).toNat % 8192, Nat.mod_lt _ (by decide)⟩ : Fin 8192) = q :=
    Fin.ext (by rw [h1, word_lt]; exact Nat.mod_eq_of_lt q.isLt)
  exact congrArg (fun r => W m d (ix2 r k)) e

/-- The block of the padded gather that the program keeps. -/
theorem slice_rows : (extractStridedSlice KernelIdeal.S16384x32 ![0, 0] · KernelIdeal.Gen.slices_S16384x128_S16384x32_0_0) (Kernel.gathered (tabOf m d) (ixOf m d)) = Q m d := by
  rw [Kernel.tabOf_eq]
  exact Gather.slice_gathered (F := Ideal) (W m d) (ixOf m d) _

/-- A mean of squares, as a sum over rows and columns. -/
theorem mean_at (e : FVec Ideal Cert.ReferenceIdeal.S16384x32 .f32) (y) : meanSq e y = Ideal.div (∑ n : Fin 16384, ∑ k : Fin 32, e (ix2 n k) * e (ix2 n k)) (Ideal.ofBits .f32 0x49000000#32) := by
  unfold meanSq
  pointwise

/-- The kernel's sum is the sum of the squared differences when the arguments are real, and it is real. -/
theorem sum_eq (hx : ∀ i, ∃ r : ℝ, (X m d i : EReal) = r) (hw : ∀ i, ∃ r : ℝ, (W m d i : EReal) = r) (y) :
    sumArr m d y = ∑ n : Fin 16384, ∑ k : Fin 32, subf (Q m d) (X m d) (ix2 n k) * subf (Q m d) (X m d) (ix2 n k)
    ∧ ∃ s : ℝ, sumArr m d y = (s : EReal) := by
  have hx' : AllReal (dataOf m d) := fun n k => hx (ix2 n k)
  have hw' : AllReal (bookOf m d) := fun q k => hw (ix2 q k)
  have key : ∀ n, low m d n * low m d n = ∑ k : Fin 32, subf (Q m d) (X m d) (ix2 n k) * subf (Q m d) (X m d) (ix2 n k)
      ∧ ∃ r : ℝ, low m d n * low m d n = (r : EReal) := by
    intro n
    obtain ⟨q, h1, h2⟩ := rows_at m d n
    have e : low m d n * low m d n = sqErr (dataOf m d) (bookOf m d) n q := by rw [h2]; exact far_sq hx' hw' n q
    refine ⟨e.trans (Finset.sum_congr rfl fun k _ => ?_), ?_⟩
    · rw [← h1 k]; rfl
    · rw [e]; exact sqErr_real hx' hw' n q
  rw [sum_at]
  refine ⟨Finset.sum_congr rfl fun n _ => (key n).1, ?_⟩
  choose r hr using fun n => (key n).2
  exact ⟨∑ n, r n, (Finset.sum_congr rfl fun n _ => hr n).trans (coe_sum _ _).symm⟩

/-- For real arguments the losses agree. -/
theorem loss_eq (hx : ∀ i, ∃ r : ℝ, (X m d i : EReal) = r) (hw : ∀ i, ∃ r : ℝ, (W m d i : EReal) = r) :
    Host.divf (mulf (constant (F := Ideal) KernelIdeal.S_ .f32 0x3FA00000#32) (shapeCast KernelIdeal.S_ (sumArr m d) KernelIdeal.Gen.shapeCasts_S1x1_S_)) (constant KernelIdeal.S_ .f32 0x49000000#32)
      = addf (meanSq (subf (Q m d) (X m d))) (mulf (constant (F := Ideal) ReferenceIdeal.S_ .f32 0x3E800000#32) (meanSq (subf (Q m d) (X m d)))) := by
  funext y
  obtain ⟨e, s, hs⟩ := sum_eq m d hx hw (ix2 0 0)
  have l : Host.divf (mulf (constant (F := Ideal) KernelIdeal.S_ .f32 0x3FA00000#32) (shapeCast KernelIdeal.S_ (sumArr m d) KernelIdeal.Gen.shapeCasts_S1x1_S_)) (constant KernelIdeal.S_ .f32 0x49000000#32) y
      = Ideal.div (Ideal.ofBits .f32 0x3FA00000#32 * sumArr m d (ix2 0 0)) (Ideal.ofBits .f32 0x49000000#32) := by
    pointwise
  have r : ∀ z : FVec Ideal ReferenceIdeal.S_ .f32, addf z (mulf (constant (F := Ideal) ReferenceIdeal.S_ .f32 0x3E800000#32) z) y
      = z y + Ideal.ofBits .f32 0x3E800000#32 * z y := fun z => by pointwise
  rw [l, r, mean_at, ← e, hs]
  exact loss_real s

end Cert.Proof.Whole
-- ==== Proof.Claims.lean ====
/-
  The claims of the whole kernel over the extended reals: it and the reference leave their arguments and semaphores as they
  were, and from equal finite arguments they end with equal results.
-/
module

public import proofs.«01_k».proof.Proof.Whole

@[expose] public section

set_option maxRecDepth 16384

noncomputable section

namespace Cert.Proof.Whole

open Cert.Proof.Rows
open Cert.Proof.Kernel (ixOf tabOf sumArr W₅)
open Cert.Proof.Reference (dists firsts meanSq U₂ U₃)
open Idealize.ShloMosaic Idealize.ShloMosaic.TcCoe Idealize.SL.Sem

/-- The kernel runs from any memory, since its indices are always rows of the codebook. -/
theorem kernel_runs (m : (ℓ : Loc KernelIdeal.nD KernelIdeal.τ KernelIdeal.sig) → Buf (Elt Ideal) ℓ) (ρ : Dev KernelIdeal.nD → PrngReg) :
    θ_run (KernelIdeal.defs (F := Ideal)) (KernelIdeal.threads (F := Ideal)) ⟨m, fun _ => 0, ρ⟩ (fun r =>
      (∀ d b, b.isScoped = false → r.2.mem ((SparseCore.T d).loc b) = W₅ m d (Proc.devRef .tc b)) ∧ r.2.sem = fun _ => 0) :=
  Kernel.run_main (F := Ideal) m ρ (in_range m)

/-- `Cert.quiescent_KernelIdeal` (Defs.lean). -/
theorem quiescent_kernel : Cert.quiescent_KernelIdeal := fun m ρ _ =>
  (θ_run KernelIdeal.defs _ _).mono (fun _ h => ⟨fun d => ⟨(h.1 d KernelIdeal.main_arg0 rfl).trans (Kernel.W₅_arg0 m d),
    (h.1 d KernelIdeal.main_arg1 rfl).trans (Kernel.W₅_arg1 m d)⟩, h.2⟩) (kernel_runs m ρ)

/-- `Cert.quiescent_ReferenceIdeal` (Defs.lean). -/
theorem quiescent_reference : Cert.quiescent_ReferenceIdeal := fun m ρ _ =>
  (θ_run ReferenceIdeal.defs _ _).mono (fun _ h => ⟨fun c => ⟨(h.1 c ReferenceIdeal.main_arg0).trans (Reference.U₃_arg0 m c),
    (h.1 c ReferenceIdeal.main_arg1).trans (Reference.U₃_arg1 m c)⟩, h.2⟩) (Reference.run_main (F := Ideal) m ρ)

section Values

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (d : Dev KernelIdeal.nD)
  (hx : Reference.xOf m' d = X m d) (hw : Reference.wOf m' d = W m d)

include hx hw

/-- The reference's indices are the kernel's. -/
theorem ref_index : firsts (dists (Reference.xOf m' d) (Reference.wOf m' d)) = ixOf m d := by
  rw [hx, hw]
  exact (index_eq m d).symm

/-- The reference takes the rows the kernel gathers. -/
theorem ref_rows : U₂ m' d (Proc.devRef .tc ReferenceIdeal.main_v18) = Q m d := by
  have e := ref_index m m' d hx hw
  rw [Reference.U₂_v18 m' d (by rw [e]; exact in_range m d), e, hw]

/-- The third result: the indices. -/
theorem third : U₃ m' d (Proc.devRef .tc ReferenceIdeal.main_v17) = W₅ m d (Proc.devRef .tc KernelIdeal.main_v10) :=
  (Reference.U₃_v17 m' d).trans ((ref_index m m' d hx hw).trans (Kernel.W₅_v10 m d).symm)

/-- The first result: the straight-through rows. -/
theorem first : U₃ m' d (Proc.devRef .tc ReferenceIdeal.main_v30) = W₅ m d (Proc.devRef .tc KernelIdeal.main_v18) := by
  rw [Reference.U₃_v30, ref_rows m m' d hx hw, hx]
  refine Eq.symm ((Kernel.W₅_v18 m d).trans ?_)
  rw [slice_rows]

/-- The second result: the loss, for real arguments. -/
theorem second (rx : ∀ i, ∃ r : ℝ, (X m d i : EReal) = r) (rw' : ∀ i, ∃ r : ℝ, (W m d i : EReal) = r) :
    U₃ m' d (Proc.devRef .tc ReferenceIdeal.main_v28) = W₅ m d (Proc.devRef .tc KernelIdeal.main_v16) := by
  rw [Reference.U₃_v28, ref_rows m m' d hx hw, hx]
  exact Eq.symm ((Kernel.W₅_v16 m d).trans (loss_eq m d rx rw'))

end Values

/-- `Cert.algebraic_KernelIdeal_ReferenceIdeal_pre_finite` (Defs.lean): all three results agree. -/
theorem algebraic : Cert.algebraic_KernelIdeal_ReferenceIdeal_pre_finite := by
  intro m ρ m' ρ' hpre hagree
  have hreal := fun c => Finite.real_of_pre (X m c) (W m c) (hpre c)
  refine ⟨fun c => W₅ m c (Proc.devRef .tc KernelIdeal.main_v18), fun c => W₅ m c (Proc.devRef .tc KernelIdeal.main_v16),
    fun c => W₅ m c (Proc.devRef .tc KernelIdeal.main_v10), ?_, ?_⟩
  · refine (θ_run KernelIdeal.defs _ _).mono (fun _ h c => ?_) (kernel_runs m ρ)
    exact ⟨h.1 c _ rfl, h.1 c _ rfl, h.1 c _ rfl, (h.1 c _ rfl).trans (Kernel.W₅_arg0 m c), (h.1 c _ rfl).trans (Kernel.W₅_arg1 m c)⟩
  · refine (θ_run ReferenceIdeal.defs _ _).mono (fun _ h c => ?_) (Reference.run_main (F := Ideal) m' ρ')
    obtain ⟨hx, hw⟩ := hagree c
    exact ⟨(h.1 c _).trans (first m m' c hx hw), (h.1 c _).trans (second m m' c hx hw (hreal c).1 (hreal c).2),
      (h.1 c _).trans (third m m' c hx hw), (h.1 c _).trans (Reference.U₃_arg0 m' c), (h.1 c _).trans (Reference.U₃_arg1 m' c)⟩

end Cert.Proof.Whole
-- ==== Proof.lean ====
module

public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.ReferenceIdeal
public import proofs.«01_k».proof.Proof.Gen.Pre_finite
public import proofs.«01_k».proof.Defs
public import proofs.«01_k».proof.Proof.Gather.Claims
public import proofs.«01_k».proof.Proof.Claims
public import proofs.«01_k».proof.Proof.Gen.Distances
public import proofs.«01_k».proof.Proof.Gen.Distances.Skeleton
public import proofs.«01_k».proof.Proof.Gen.Distances.Launch
public import proofs.«01_k».proof.Proof.Gen.Distances.Points
public import proofs.«01_k».proof.Proof.Gen.Distances.Frame
public import proofs.«01_k».proof.Proof.Gen.Gather
public import proofs.«01_k».proof.Proof.Gen.Gather.Skeleton
public import proofs.«01_k».proof.Proof.Gen.Take
public import proofs.«01_k».proof.Proof.Gen.Take.Run
public import proofs.«01_k».proof.Proof.Gen.Pre_indices_in_range

@[expose] public section

noncomputable section

namespace Cert.Proof

open Idealize.ShloMosaic Idealize.SL.Sem

/-- All the claims of the certificate. -/
theorem claim : Cert.Claim :=
  ⟨Cert.KernelIdeal.Gen.facts, Cert.ReferenceIdeal.Gen.facts, Cert.Gather.Gen.facts, Cert.Take.Gen.facts, Cert.Distances.Gen.facts,
    Cert.Pre_finite.Gen.facts, Cert.Pre_indices_in_range.Gen.facts,
    Whole.quiescent_kernel, fun m ρ _ => Whole.quiescent_kernel m ρ trivial,
    Whole.quiescent_reference, fun m ρ _ => Whole.quiescent_reference m ρ trivial,
    Gather.quiescent, Gather.quiescent_take, fun m ρ _ => Cert.Distances.Gen.frame m ρ,
    Whole.algebraic, Gather.bitexact⟩

end Cert.Proof

end
